-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ preserves_Kernel_KernelIdeal
    ∧ algebraic_KernelIdeal_ReferenceIdeal_pre_finite_gates (hKernelIdeal := hKernelIdeal) (hReferenceIdeal := hReferenceIdeal) (hPre_finite_gates := hPre_finite_gates)
-- ==== Pre_finite_gates.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v3 : IVec S_ 1) (main_v7 : IVec S_ 1) (main_v11 : IVec S_ 1) (main_v15 : IVec S_ 1) : IVec S_ 1 :=
  let main_v16 : FVec F S1 .f32 := Host.absf main_arg5
  let main_cst_6 : FVec F S_ .f32 := constant S_ .f32 0x7F800000#32
  let main_v17 : FVec F S1 .f32 := broadcastInDim S1 ![] bcast_S_S1 main_cst_6
  let main_v18 : IVec S1 1 := cmpf .olt main_v16 main_v17
  let main_c_7 : IVec S_ 1 := constantI S_ 1 1#1
  let main_v19 : IVec S_ 1 := (fun x v => Host.reduce IntOp.andi x v reducesTo_S1_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S50000x512 .f32) (main_arg1 : IVec S50000 32) (main_arg2 : FVec F S512x512 .f32) (main_arg3 : FVec F S512 .f32) (main_arg4 : FVec F S512x1 .f32) (main_arg5 : FVec F S1 .f32) (main_arg6 : FVec F S512x512 .f32) (main_arg7 : FVec F S512 .f32) (main_arg8 : FVec F S512x512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : FVec F S512 .f32 := Host.absf main_arg3
  let main_cst_2 : FVec F S_ .f32 := constant S_ .f32 0x7F800000#32
  let main_v9 : FVec F S512 .f32 := broadcastInDim S512 ![] bcast_S_S512 main_cst_2
  let main_v10 : IVec S512 1 := cmpf .olt main_v8 main_v9
  let main_c_3 : IVec S_ 1 := constantI S_ 1 1#1
  let main_v11 : IVec S_ 1 := (fun x v => Host.reduce IntOp.andi x v reducesTo_S512_S_d0 h_S_) main_v10 main_c_3
  let main_v12 : FVec F S512x1 .f32 := Host.absf main_arg4
  let main_cst_4 : FVec F S_ .f32 := constant S_ .f32 0x7F800000#32
  let main_v13 : FVec F S512x1 .f32 := broadcastInDim S512x1 ![] bcast_S_S512x1 main_cst_4
  let main_v14 : IVec S512x1 1 := cmpf .olt main_v12 main_v13
  let main_c_5 : IVec S_ 1 := constantI S_ 1 1#1
  let main_v15 : IVec S_ 1 := (fun x v => Host.reduce IntOp.andi x v reducesTo_S512x1_S_d0_1 h_S_) main_v14 main_c_5
  fn_part1 (F := F) main_arg5 main_v3 main_v7 main_v11 main_v15
-- ==== Kernel.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S25x2000x1 : Shape := ⟨3, ![25, 2000, 1]⟩
abbrev S1x512 : Shape := ⟨2, ![1, 512]⟩
abbrev S256x512 : Shape := ⟨2, ![256, 512]⟩
abbrev S1x2000x1 : Shape := ⟨3, ![1, 2000, 1]⟩
abbrev S1x1 : Shape := ⟨2, ![1, 1]⟩
abbrev S256x1 : Shape := ⟨2, ![256, 1]⟩
abbrev S3x2000x512 : Shape := ⟨3, ![3, 2000, 512]⟩
abbrev S3 : Shape := ⟨1, ![3]⟩
abbrev S7 : Shape := ⟨1, ![7]⟩
abbrev S_ : Shape := ⟨0, ![]⟩
abbrev S1x2000x512 : Shape := ⟨3, ![1, 2000, 512]⟩
abbrev S2000x512 : Shape := ⟨2, ![2000, 512]⟩
abbrev S2000 : Shape := ⟨1, ![2000]⟩
abbrev S2000x1 : Shape := ⟨2, ![2000, 1]⟩
abbrev S2000x256 : Shape := ⟨2, ![2000, 256]⟩

abbrev nBuf : Space → Nat
  | .hbm => 16
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S25x2000x1, .i32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S256x512, .f32⟩
  | .local _ .vmem, ⟨0, _⟩ => ⟨S1x2000x1, .i32⟩
  | .local _ .vmem, ⟨1, _⟩ => ⟨S1x2000x1, .i32⟩
  | .local _ .vmem, ⟨2, _⟩ => ⟨S256x512, .f32⟩
  | .local _ .vmem, ⟨3, _⟩ => ⟨S1x1, .f32⟩
  | .local _ .vmem, ⟨4, _⟩ => ⟨S256x1, .f32⟩
  | .local _ .vmem, ⟨5, _⟩ => ⟨S256x512, .f32⟩
  | .local _ .vmem, ⟨6, _⟩ => ⟨S3x2000x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_55 : BitVec 32 := 0#32
  c0_i32_55
def k0_mult2 : BitVec 32 :=
  let c2000_i32_61 : BitVec 32 := 2000#32
  c2000_i32_61
def k0_mult3 : BitVec 32 :=
  let c4000_i32 : BitVec 32 := 4000#32
  c4000_i32
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c1_i32 : BitVec 32 := 1#32
  let v4 : BitVec 32 := Scalar.subi arg0 c1_i32
  let c3_i32 : BitVec 32 := 3#32
  let v5 : BitVec 32 := Scalar.addi v4 c3_i32
  let c25_i32 : BitVec 32 := 25#32
  let v6 : BitVec 1 := Scalar.cmpi .slt v5 c25_i32
  let v7 : BitVec 1 := Scalar.andi v3 v6
  let v8 : BitVec 32 := Scalar.extui v7
  let c0_i32_2 : BitVec 32 := 0#32
  let v9 : BitVec 1 := Scalar.cmpi .ne v8 c0_i32_2
  v9

def k0_mult4 (i : grid0.Coords) : BitVec 32 :=
  let arg0 : BitVec 32 := BitVec.ofNat 32 (i 0).val
  let c1_i32_43 : BitVec 32 := 1#32
  let v82 : BitVec 32 := Scalar.subi arg0 c1_i32_43
  let c3_i32_44 : BitVec 32 := 3#32
  let v83 : BitVec 32 := Scalar.addi v82 c3_i32_44
  let c2000_i32_47 : BitVec 32 := 2000#32
  let v86 : BitVec 32 := Scalar.muli v83 c2000_i32_47
  v86
def k0_off1 (i : grid0.Coords) : Fin 1 → Nat :=
  let arg0 : BitVec 32 := BitVec.ofNat 32 (i 0).val
  let c1_i32_45 : BitVec 32 := 1#32
  let v84 : BitVec 32 := Scalar.subi arg0 c1_i32_45
  let c3_i32_46 : BitVec 32 := 3#32
  let v85 : BitVec 32 := Scalar.remsi v84 c3_i32_46
  ![v85.toNat]
def k0_off2 (i : grid0.Coords) : Fin 3 → Nat :=
  let arg0 : BitVec 32 := BitVec.ofNat 32 (i 0).val
  let c1_i32_45 : BitVec 32 := 1#32
  let v84 : BitVec 32 := Scalar.subi arg0 c1_i32_45
  let c3_i32_46 : BitVec 32 := 3#32
  let v85 : BitVec 32 := Scalar.remsi v84 c3_i32_46
  let c0_i32_48 : BitVec 32 := 0#32
  let c0_i32_49 : BitVec 32 := 0#32
  ![v85.toNat, 0, 0]
def k0_off3 (i : grid0.Coords) : Fin 2 → Nat :=
  let arg0 : BitVec 32 := BitVec.ofNat 32 (i 0).val
  let c1_i32_43 : BitVec 32 := 1#32
  let v82 : BitVec 32 := Scalar.subi arg0 c1_i32_43
  let c3_i32_44 : BitVec 32 := 3#32
  let v83 : BitVec 32 := Scalar.addi v82 c3_i32_44
  let c2000_i32_47 : BitVec 32 := 2000#32
  let v86 : BitVec 32 := Scalar.muli v83 c2000_i32_47
  let v87 : BitVec 32 := v86
  let c0_i32_50 : BitVec 32 := 0#32
  ![v87.toNat, 0]
def k0_mult5 (i : grid0.Coords) : BitVec 32 :=
  let arg0 : BitVec 32 := BitVec.ofNat 32 (i 0).val
  let c2000_i32 : BitVec 32 := 2000#32
  let v11 : BitVec 32 := Scalar.muli arg0 c2000_i32
  v11
def k0_off4 (i : grid0.Coords) : Fin 1 → Nat :=
  let arg0 : BitVec 32 := BitVec.ofNat 32 (i 0).val
  let c3_i32_3 : BitVec 32 := 3#32
  let v10 : BitVec 32 := Scalar.remsi arg0 c3_i32_3
  ![v10.toNat]
def k0_off5 (i : grid0.Coords) : Fin 3 → Nat :=
  let arg0 : BitVec 32 := BitVec.ofNat 32 (i 0).val
  let c3_i32_3 : BitVec 32 := 3#32
  let v10 : BitVec 32 := Scalar.remsi arg0 c3_i32_3
  let c0_i32_4 : BitVec 32 := 0#32
  let c0_i32_5 : BitVec 32 := 0#32
  ![v10.toNat, 0, 0]
def k0_off6 (i : grid0.Coords) : Fin 2 → Nat :=
  let arg0 : BitVec 32 := BitVec.ofNat 32 (i 0).val
  let c2000_i32 : BitVec 32 := 2000#32
  let v11 : BitVec 32 := Scalar.muli arg0 c2000_i32
  let v12 : BitVec 32 := v11
  let c0_i32_6 : BitVec 32 := 0#32
  ![v12.toNat, 0]
def k0_off7 (i : grid0.Coords) : Fin 3 → Nat :=
  let arg0 : BitVec 32 := BitVec.ofNat 32 (i 0).val
  let c3_i32_3 : BitVec 32 := 3#32
  let v10 : BitVec 32 := Scalar.remsi arg0 c3_i32_3
  let v18 : Index := Scalar.indexCast v10
  let c0 : Index := 0#32
  let c0_7 : Index := 0#32
  ![v18.toNat, 0, 0]
def k0_cond3 (i : grid0.Coords) : BitVec 1 :=
  let arg0 : BitVec 32 := BitVec.ofNat 32 (i 0).val
  let c24_i32 : BitVec 32 := 24#32
  let v79 : BitVec 1 := Scalar.cmpi .eq arg0 c24_i32
  let v80 : BitVec 32 := Scalar.extui v79
  let c0_i32_42 : BitVec 32 := 0#32
  let v81 : BitVec 1 := Scalar.cmpi .ne v80 c0_i32_42
  v81

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S50000x1 : Shape := ⟨2, ![50000, 1]⟩
abbrev S1x1 : Shape := ⟨2, ![1, 1]⟩
abbrev S256 : Shape := ⟨1, ![256]⟩
abbrev S1x256 : Shape := ⟨2, ![1, 256]⟩
abbrev S50000x256 : Shape := ⟨2, ![50000, 256]⟩
abbrev S256x1 : Shape := ⟨2, ![256, 1]⟩
abbrev S256x512 : Shape := ⟨2, ![256, 512]⟩

abbrev nBuf : Space → Nat
  | .hbm => 103
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S50000x512, .f32⟩
  | .hbm, ⟨11, _⟩ => ⟨S1x512, .f32⟩
  | .hbm, ⟨12, _⟩ => ⟨S50000x512, .f32⟩
  | .hbm, ⟨13, _⟩ => ⟨S50000x512, .f32⟩
  | .hbm, ⟨14, _⟩ => ⟨S_, .f32⟩
  | .hbm, ⟨15, _⟩ => ⟨S50000x512, .f32⟩
  | .hbm, ⟨16, _⟩ => ⟨S50000x512, .f32⟩
  | .hbm, ⟨17, _⟩ => ⟨S50000x1, .f32⟩
  | .hbm, ⟨18, _⟩ => ⟨S1x1, .f32⟩
  | .hbm, ⟨19, _⟩ => ⟨S50000x1, .f32⟩
  | .hbm, ⟨20, _⟩ => ⟨S50000x1, .f32⟩
  | .hbm, ⟨21, _⟩ => ⟨S50000x512, .f32⟩
  | .hbm, ⟨22, _⟩ => ⟨S1x512, .f32⟩
  | .hbm, ⟨23, _⟩ => ⟨S50000x512, .f32⟩
  | .hbm, ⟨24, _⟩ => ⟨S50000x512, .f32⟩
  | .hbm, ⟨25, _⟩ => ⟨S_, .f32⟩
  | .hbm, ⟨26, _⟩ => ⟨S50000x512, .f32⟩
  | .hbm, ⟨27, _⟩ => ⟨S50000x512, .f32⟩
  | .hbm, ⟨28, _⟩ => ⟨S50000x512, .f32⟩
  | .hbm, ⟨29, _⟩ => ⟨S1x512, .f32⟩
  | .hbm, ⟨30, _⟩ => ⟨S50000x512, .f32⟩
  | .hbm, ⟨31, _⟩ => ⟨S50000x512, .f32⟩
  | .hbm, ⟨32, _⟩ => ⟨S50000x1, .i32⟩
  | .hbm, ⟨33, _⟩ => ⟨S256, .i32⟩
  | .hbm, ⟨34, _⟩ => ⟨S1x256, .i32⟩
  | .hbm, ⟨35, _⟩ => ⟨S50000x256, .i32⟩
  | .hbm, ⟨36, _⟩ => ⟨S50000x256, .i32⟩
  | .hbm, ⟨37, _⟩ => ⟨S50000x256, .i1⟩
  | .hbm, ⟨38, _⟩ => ⟨S_, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .i1⟩
  | .hbm, ⟨50, _⟩ => ⟨S_, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S_, .f32⟩
  | .hbm, ⟨66, _⟩ => ⟨S256x1, .f32⟩
  | .hbm, ⟨67, _⟩ => ⟨S50000x1, .i32⟩
  | .hbm, ⟨68, _⟩ => ⟨S256x1, .f32⟩
  | .hbm, ⟨69, _⟩ => ⟨S_, .f32⟩
  | .hbm, ⟨70, _⟩ => ⟨S_, .f32⟩
  | .hbm, ⟨71, _⟩ => ⟨S256x1, .f32⟩
  | .hbm, ⟨72, _⟩ => ⟨S256x1, .f32⟩
  | .hbm, ⟨73, _⟩ => ⟨S256x1, .f32⟩
  | .hbm, ⟨74, _⟩ => ⟨S_, .f32⟩
  | .hbm, ⟨75, _⟩ => ⟨S256x1, .f32⟩
  | .hbm, ⟨76, _⟩ => ⟨S256x1, .f32⟩
  | .hbm, ⟨77, _⟩ => ⟨S_, .i32⟩
  | .hbm, ⟨78, _⟩ => ⟨S50000, .i32⟩
  | .hbm, ⟨79, _⟩ => ⟨S50000, .i1⟩
  | .hbm, ⟨80, _⟩ => ⟨S_, .i32⟩
  | .hbm, ⟨81, _⟩ => ⟨S50000, .i32⟩
  | .hbm, ⟨82, _⟩ => ⟨S50000, .i32⟩
  | .hbm, ⟨83, _⟩ => ⟨S50000, .i32⟩
  | .hbm, ⟨84, _⟩ => ⟨S50000x1, .i32⟩
  | .hbm, ⟨85, _⟩ => ⟨S50000x1, .f32⟩
  | .hbm, ⟨86, _⟩ => ⟨S_, .i32⟩
  | .hbm, ⟨87, _⟩ => ⟨S50000, .i32⟩
  | .hbm, ⟨88, _⟩ => ⟨S50000, .i1⟩
  | .hbm, ⟨89, _⟩ => ⟨S_, .i32⟩
  | .hbm, ⟨90, _⟩ => ⟨S50000, .i32⟩
  | .hbm, ⟨91, _⟩ => ⟨S50000, .i32⟩
  | .hbm, ⟨92, _⟩ => ⟨S50000, .i32⟩
  | .hbm, ⟨93, _⟩ => ⟨S50000x1, .i32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S50000x512, .f32⟩
  | .hbm, ⟨98, _⟩ => ⟨S50000x512, .f32⟩
  | .hbm, ⟨99, _⟩ => ⟨S_, .f32⟩
  | .hbm, ⟨100, _⟩ => ⟨S256x512, .f32⟩
  | .hbm, ⟨101, _⟩ => ⟨S50000x1, .i32⟩
  | .hbm, ⟨102, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_call3_v0 : Ref sig .tc := ⟨.hbm, 51, rfl⟩
abbrev main_call3_v1 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_c_7 : Ref sig .tc := ⟨.hbm, 77, rfl⟩
abbrev main_v49 : Ref sig .tc := ⟨.hbm, 78, rfl⟩
abbrev main_v50 : Ref sig .tc := ⟨.hbm, 79, rfl⟩
abbrev main_c_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_9 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Proof.Transfer.lean ====
/- The idealized kernel is the kernel: one program, read over another kind of numbers. -/
module

public import proofs.«01_k».proof.Defs

@[expose] public section

namespace Cert.Proof

open Idealize.ShloMosaic

variable {F : FTy → Type} [FloatOps F] [h : Cert.Kernel.Facts] [h1 : Cert.KernelIdeal.Facts]

/-- The two host programs are one. -/
theorem main_eq : @Cert.KernelIdeal.main F _ = @Cert.Kernel.main F _ := by with_unfolding_all rfl

/-- The two kernels' bodies are one. -/
theorem defs₀_eq : @Cert.KernelIdeal.defs₀ F _ _ = @Cert.Kernel.defs₀ F _ _ := by
  funext p l a
  rcases p with _ | _ | ⟨_, _⟩
  · rcases l with ⟨_ | n, hl⟩
    · with_unfolding_all rfl
    · exact absurd hl (Nat.not_lt.2 (Nat.le_add_left _ _))
  · rfl
  · rfl

/-- The two tables of definitions are one. -/
theorem defs_eq : @Cert.KernelIdeal.defs F _ _ = @Cert.Kernel.defs F _ _ := by
  unfold Cert.KernelIdeal.defs Cert.Kernel.defs
  rw [defs₀_eq]
  with_unfolding_all rfl

end Cert.Proof
-- ==== Proof.Run.Ring.lean ====
/- The set-up of the kernel's run: its conditions over the points, the buffers it is launched on, and the ring of three slots through
   which it streams the node features: the slots, the blocks, the cells that count the transfers, and the ring's state before each point. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host program up to the region: its operations, then the region. -/
theorem host_main (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Whether a point is the first, -/
abbrev isFirst (i : grid0.Coords) : Prop := k0_cond1 i = 1#1
/-- whether it starts the transfer of a block two points ahead, -/
abbrev prefetches (i : grid0.Coords) : Prop := k0_cond2 i = 1#1
/-- and whether it is the last. -/
abbrev isLast (i : grid0.Coords) : Prop := k0_cond3 i = 1#1

/-- The first point is point 0. -/
theorem isFirst_iff : ∀ t : Fin grid0.N, isFirst (grid0.coords t) ↔ t.val = 0 := by decide +kernel
/-- Points 1 to 22 start a transfer ahead. -/
theorem prefetches_iff : ∀ t : Fin grid0.N, prefetches (grid0.coords t) ↔ 1 ≤ t.val ∧ t.val ≤ 22 := by decide +kernel
/-- The last point is point 24. -/
theorem isLast_iff : ∀ t : Fin grid0.N, isLast (grid0.coords t) ↔ t.val = 24 := by decide +kernel

/-- The staging buffers that a point is handed: of the nodes' graphs, -/
abbrev stageIn (t : Fin cfg0.N) : Memref sig .tc .vmem S1x2000x1 .i32 := win0_0.stage (cfg0.slots t 0)
/-- and of the result. -/
abbrev stageOut (t : Fin cfg0.N) : Memref sig .tc .vmem S256x512 .f32 := win0_1.stage (cfg0.slots t 1)

/-! The scratch buffers: the accumulators (0 to 2), the ring (3) and the copies of the weights (4 to 10). -/

abbrev scr0 : Memref sig .tc .vmem S1x1 .f32 := Memref.whole cc0_scratch0
abbrev scr1 : Memref sig .tc .vmem S256x1 .f32 := Memref.whole cc0_scratch1
abbrev scr2 : Memref sig .tc .vmem S256x512 .f32 := Memref.whole cc0_scratch2
abbrev scr3 : Memref sig .tc .vmem S3x2000x512 .f32 := Memref.whole cc0_scratch3
abbrev scr4 : Memref sig .tc .vmem S512x512 .f32 := Memref.whole cc0_scratch4
abbrev scr5 : Memref sig .tc .vmem S1x512 .f32 := Memref.whole cc0_scratch5
abbrev scr6 : Memref sig .tc .vmem S1x512 .f32 := Memref.whole cc0_scratch6
abbrev scr7 : Memref sig .tc .vmem S512x512 .f32 := Memref.whole cc0_scratch7
abbrev scr8 : Memref sig .tc .vmem S1x512 .f32 := Memref.whole cc0_scratch8
abbrev scr9 : Memref sig .tc .vmem S512x512 .f32 := Memref.whole cc0_scratch9
abbrev scr10 : Memref sig .tc .vmem S1x512 .f32 := Memref.whole cc0_scratch10

/-! The arrays that the kernel copies by itself: the node features (0) and the weights (1 to 7). -/

abbrev hbm0 : Memref sig .tc .hbm S50000x512 .f32 := Memref.whole main_arg0
abbrev hbm1 : Memref sig .tc .hbm S512x512 .f32 := Memref.whole main_arg2
abbrev hbm2 : Memref sig .tc .hbm S1x512 .f32 := Memref.whole main_v1
abbrev hbm3 : Memref sig .tc .hbm S1x512 .f32 := Memref.whole main_v2
abbrev hbm4 : Memref sig .tc .hbm S512x512 .f32 := Memref.whole main_arg6
abbrev hbm5 : Memref sig .tc .hbm S1x512 .f32 := Memref.whole main_v3
abbrev hbm6 : Memref sig .tc .hbm S512x512 .f32 := Memref.whole main_arg8
abbrev hbm7 : Memref sig .tc .hbm S1x512 .f32 := Memref.whole main_v4

/-- The contents of `M`'s buffer on core `c`, -/
abbrev BufOf (c : Dev nD) {sp : Space} {S : Shape} {e : EltTy} (M : Memref sig .tc sp S e) : Type := Buf (Elt F) (M.view.loc (c : Thread nD τ))
/-- and that buffer held whole at `f`. -/
abbrev bufPt (c : Dev nD) {sp : Space} {S : Shape} {e : EltTy} (M : Memref sig .tc sp S e) (f : BufOf (F := F) c M) : sProp 𝕄 :=
  M.view.loc (c : Thread nD τ) ↦{fullShare} f

/-- The cells that count the kernel's own transfers: three of the ring, seven of the weights. -/
abbrev bodySems : Fin 10 → SemLoc sig :=
  fun j => (![SemLoc.dma 3, SemLoc.dma 4, SemLoc.dma 5, SemLoc.dma 6, SemLoc.dma 7, SemLoc.dma 8, SemLoc.dma 9, SemLoc.dma 10, SemLoc.dma 11, SemLoc.dma 12] : Fin 10 → SemLoc sig) j
/-- None of them is a window's. -/
theorem bodySems_own : Pipeline.OwnSemFacts spec0 bodySems := by decide
/-- The arrays that the kernel copies by itself. -/
def movedArrays : Finset (Ref sig .tc) := {main_arg0, main_arg2, main_v1, main_v2, main_arg6, main_v3, main_arg8, main_v4}
/-- None of them is a window's. -/
theorem movedArrays_sub : movedArrays ⊆ Pipeline.restRefs sig spec0 := by decide

/-- All the cells at zero, one by one. -/
theorem cells_zero (c : Dev nD) :
    (Pipeline.ownSems0 (Ix := Unit) (Name := ℕ) (U := Pipeline.UD sig nD τ) (Lvl := ℕ) (Val := Elt F) (τ := τ) bodySems c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c bodySems [0, 1, 2, 3, 4, 5, 6, 7, 8, 9] (by decide) (by decide)]; rfl
/-- All those arrays held as the region finds them, one by one. -/
theorem arrays_held (c : Dev nD) :
    (bigSep movedArrays (fun b => ((c : Thread nD τ).loc b) ↦{fullShare} V m c b) : sProp 𝕄) = iprop(bufPt c hbm0 (V m c main_arg0) ∗ bufPt c hbm1 (V m c main_arg2) ∗ bufPt c hbm2 (V m c main_v1) ∗ bufPt c hbm3 (V m c main_v2) ∗ bufPt c hbm4 (V m c main_arg6) ∗ bufPt c hbm5 (V m c main_v3) ∗ bufPt c hbm6 (V m c main_arg8) ∗ bufPt c hbm7 (V m c main_v4)) := by
  rw [BI.bigSep_eq_bigSepL_of_eq [main_arg0, main_arg2, main_v1, main_v2, main_arg6, main_v3, main_arg8, main_v4] (by decide) (by decide)]; rfl

/-- What the launch hands the kernel and takes back: the scratch at anything, the generator's register, the cells at zero and the arrays
    as the region finds them. -/
theorem handed_eq (c : Dev nD) :
    (Pipeline.ΦD bodySems spec0 movedArrays (V m) c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d)) ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(bufPt c hbm0 (V m c main_arg0) ∗ bufPt c hbm1 (V m c main_arg2) ∗ bufPt c hbm2 (V m c main_v1) ∗ bufPt c hbm3 (V m c main_v2) ∗ bufPt c hbm4 (V m c main_arg6) ∗ bufPt c hbm5 (V m c main_v3) ∗ bufPt c hbm6 (V m c main_arg8) ∗ bufPt c hbm7 (V m c main_v4))) := by
  rw [Pipeline.ΦD_eq, scopedRest0_eq, cells_zero, arrays_held]; simp only [scr0, scr1, scr2, scr3, scr4, scr5, scr6, scr7, scr8, scr9, scr10, owns_whole]; rfl

/-! ## The ring -/

instance : NeZero grid0.N := ⟨by rw [N_0]; decide⟩
/-- A slot lies in the ring's buffer, -/
theorem slot_inb (s : Fin 3) : ∀ a, (![s.val, 0, 0] : Fin 3 → Nat) a + S1x2000x512.size a ≤ S3x2000x512.size a := by
  have := s.isLt; intro a; fin_cases a <;> simp <;> omega
/-- a block in the node features, -/
theorem block_inb (b : Fin 25) : ∀ a, (![2000 * b.val, 0] : Fin 2 → Nat) a + S2000x512.size a ≤ S50000x512.size a := by
  have := b.isLt; intro a; fin_cases a <;> simp <;> omega
/-- and a cell among the cells. -/
theorem cell_inb (s : Fin 3) : ∀ a, (![s.val] : Fin 1 → Nat) a + S1.size a ≤ S3.size a := by
  have := s.isLt; intro a; fin_cases a <;> simp <;> omega
/-- Slot `s` of the ring. -/
def slotRef (s : Fin 3) : Memref sig .tc .vmem S2000x512 .f32 :=
  (scr3.slice (Rect.unit (s := S3x2000x512) ![s.val, 0, 0] S1x2000x512.size (slot_inb s)) (fun _ => rfl)).squeeze S2000x512 squeezes_S1x2000x512_S2000x512
/-- Block `b` of the node features. -/
def blockRef (b : Fin 25) : Memref sig .tc .hbm S2000x512 .f32 :=
  hbm0.slice (Rect.unit (s := S50000x512) ![2000 * b.val, 0] S2000x512.size (block_inb b)) (fun _ => rfl)
/-- Cell `s` of the ring, -/
def cellRef (s : Fin 3) : DmaSems sig S_ := (cc0_scratch11.slice (Rect.unit (s := S3) ![s.val] S1.size (cell_inb s))).squeeze S_ squeezes_S1_S_
/-- and its place among the semaphores. -/
abbrev cellLoc (s : Fin 3) : SemLoc sig := SemLoc.dma (cellRef s).sem

section Held
variable (c : Dev nD) (W : BufOf (F := F) c hbm0)

/-- The share of the node features that slot `s` is lent: one of three parts of the whole. -/
abbrev slotShare (s : Fin 3) : PosShare TreeShare := if s.val = 0 then fullShare.left else if s.val = 1 then fullShare.right.left else fullShare.right.right
/-- Slot `s` held at `f`. -/
abbrev slotPt (s : Fin 3) (f : BufOf (F := F) c (slotRef s)) : sProp 𝕄 := (slotRef s).view.loc (c : Thread nD τ) ↦[(slotRef s).view.set]{fullShare} f
/-- Cell `s` at zero. -/
abbrev cellZero (s : Fin 3) : sProp 𝕄 := semVal ((c : Thread nD τ), cellLoc s) 0
/-- Block `b` of slot `s`'s share of the node features: what a transfer into the slot borrows. -/
abbrev lentPt (s : Fin 3) (b : Fin 25) : sProp 𝕄 := (blockRef b).view.loc (c : Thread nD τ) ↦[(blockRef b).view.set]{slotShare s} W
/-- The rest of that share. -/
def keptPt (s : Fin 3) (b : Fin 25) : sProp 𝕄 := ((c : Thread nD τ).loc main_arg0) ↦[Finset.univ \ (blockRef b).view.set]{slotShare s} W
/-- That share, whole. -/
abbrev sharePt (s : Fin 3) : sProp 𝕄 := ((c : Thread nD τ).loc main_arg0) ↦[Finset.univ]{slotShare s} W
/-- What slot `s` holds once block `b` has landed over `f`. -/
abbrev landed (s : Fin 3) (b : Fin 25) (f : BufOf (F := F) c (slotRef s)) : BufOf (F := F) c (slotRef s) :=
  (slotRef s).view.writes (Elt F) f [⟨Rect.whole S2000x512, ReadAs.same.apply ((blockRef b).view.read (Elt F) W)⟩]
/-- Block `b` on its way into slot `s`: on arrival the slot is held with the block in it, and the borrowed block comes back. -/
abbrev flightPt (s : Fin 3) (b : Fin 25) (f : BufOf (F := F) c (slotRef s)) : sProp 𝕄 :=
  Transfers.Flight countersEmb (c : Thread nD τ) (cellLoc s) default ((slotRef s).view.amount (cellLoc s))
    iprop(slotPt c s (landed c W s b f) ∗ lentPt c W s b)
/-- A slot with its share of the node features, -/
abbrev slotFull (s : Fin 3) (f : BufOf (F := F) c (slotRef s)) : sProp 𝕄 := iprop(slotPt c s f ∗ sharePt c W s)
/-- and a block on its way, with the rest of the share. -/
abbrev flightFull (s : Fin 3) (b : Fin 25) (f : BufOf (F := F) c (slotRef s)) : sProp 𝕄 := iprop(flightPt c W s b f ∗ keptPt c W s b)
/-- No block is held apart from the slots. -/
abbrev noHome (b : Fin 25) : sProp 𝕄 := iprop(emp)
/-- The ring before point `k`: all slots free before the first point; later blocks `k` and `k + 1` are on their way (as far as there
    are such), and the third slot is free. -/
def ringAt (k : ℕ) : sProp 𝕄 :=
  if k = 0 then Ring.At₀ (cellZero c) (slotFull c W) noHome
  else Ring.At 2 (cellZero c) (slotFull c W) noHome (flightFull c W) k
omit [FloatOps F] in
/-- Each cell at zero, by its place. -/
theorem cell_zero {s : Fin 3} {l : SemLoc sig} (h : cellLoc s = l) : cellZero (F := F) c s = semVal ((c : Thread nD τ), l) 0 :=
  congrArg (fun x => (semVal ((c : Thread nD τ), x) 0 : sProp 𝕄)) h
end Held

/-- The elements of slot `s` in the ring's buffer. -/
abbrev slotSet (s : Fin 3) : Finset S3x2000x512.Idx := (Rect.unit (s := S3x2000x512) ![s.val, 0, 0] S1x2000x512.size (slot_inb s)).set
/-- They are those of the slot's view. -/
theorem slotSet_eq (s : Fin 3) : (slotRef s).view.set = slotSet s := by
  simp only [slotRef, Memref.view_squeeze, View.set_reshape]; exact View.set_slice_whole _ _
/-- The slots are disjoint, -/
theorem slots_disjoint (s s' : Fin 3) (h : s ≠ s') : Disjoint (slotSet s) (slotSet s') :=
  Ring.lead_disjoint (s := S3x2000x512) (0 : Fin 3) 1 (fun s : Fin 3 => (![s.val, 0, 0] : Fin 3 → Nat)) S1x2000x512.size slot_inb (fun s => by simp) rfl s s' h
/-- and make up the buffer. -/
theorem slots_cover : Finset.univ.biUnion slotSet = Finset.univ :=
  Ring.lead_cover (s := S3x2000x512) (0 : Fin 3) 1 (fun s : Fin 3 => (![s.val, 0, 0] : Fin 3 → Nat)) S1x2000x512.size slot_inb (fun s => by simp)
    (fun s a ha => by fin_cases a <;> first | exact absurd rfl ha | rfl) rfl (fun a ha => by fin_cases a <;> first | exact absurd rfl ha | rfl) rfl

section Exchange
variable (c : Dev nD) (W : BufOf (F := F) c hbm0)

/-- A slot held is its elements held. -/
theorem slotPt_eq (s : Fin 3) (f) : slotPt (F := F) c s f = (((c : Thread nD τ).loc cc0_scratch3) ↦[slotSet s]{fullShare} f : sProp 𝕄) := by
  unfold slotPt; rw [slotSet_eq]; rfl
/-- A slot's share of the node features is any one block of it and the rest. -/
theorem share_split (s : Fin 3) (b : Fin 25) : sharePt (F := F) c W s ⊣⊢ iprop(lentPt c W s b ∗ keptPt c W s b) := by
  unfold keptPt; exact pointsTo_split_subset (Finset.subset_univ _)
/-- The node features held whole are the three slots' shares. -/
theorem features_split : (bufPt c hbm0 W : sProp 𝕄) ⊣⊢ iprop(sharePt c W 0 ∗ sharePt c W 1 ∗ sharePt c W 2) :=
  (pointsTo_share (PosShare.mem_left_op_right fullShare)).trans (sep_congr .rfl (pointsTo_share (PosShare.mem_left_op_right fullShare.right)))

set_option maxHeartbeats 1000000 in
/-- The ring's buffer at anything is its slots at anything, -/
theorem slots_in : iprop(∃ d, owns (c : Thread nD τ) scr3 fullShare d) ⊢ (iprop((∃ f, slotPt (F := F) c 0 f) ∗ (∃ f, slotPt (F := F) c 1 f) ∗ ∃ f, slotPt (F := F) c 2 f) : sProp 𝕄) := by
  simp only [scr3, owns_whole]
  exact Ring.slots3_split (U := Pipeline.UD sig nD τ) (ℓ := (c : Thread nD τ).loc cc0_scratch3) (q := fullShare) slotSet slots_disjoint slots_cover
    (slotPt c 0) (slotPt c 1) (slotPt c 2) (slotPt_eq c 0) (slotPt_eq c 1) (slotPt_eq c 2)
set_option maxHeartbeats 1000000 in
/-- and back. -/
theorem slots_out : (iprop((∃ f, slotPt (F := F) c 0 f) ∗ (∃ f, slotPt (F := F) c 1 f) ∗ ∃ f, slotPt (F := F) c 2 f) : sProp 𝕄) ⊢ iprop(∃ d, owns (c : Thread nD τ) scr3 fullShare d) := by
  simp only [scr3, owns_whole]
  exact Ring.slots3_join (U := Pipeline.UD sig nD τ) (ℓ := (c : Thread nD τ).loc cc0_scratch3) (q := fullShare) slotSet slots_disjoint slots_cover
    (slotPt c 0) (slotPt c 1) (slotPt c 2) (slotPt_eq c 0) (slotPt_eq c 1) (slotPt_eq c 2)
end Exchange

/-- The buffer, the cells and the node features that the launch hands over are the ring before point 0, -/
theorem ring_in (c : Dev nD) :
    iprop((∃ d, owns (c : Thread nD τ) scr3 fullShare d) ∗ (semVal ((c : Thread nD τ), SemLoc.dma 3) 0 ∗ semVal ((c : Thread nD τ), SemLoc.dma 4) 0 ∗ semVal ((c : Thread nD τ), SemLoc.dma 5) 0) ∗ bufPt c hbm0 (V m c main_arg0))
      ⊢ ringAt c (V m c main_arg0) 0 := by
  unfold ringAt; rw [if_pos rfl]; unfold Ring.At₀
  rw [Ring.bigSep_fin3]
  simp only [Ring.free, cell_zero c (by decide : cellLoc 0 = SemLoc.dma 3), cell_zero c (by decide : cellLoc 1 = SemLoc.dma 4), cell_zero c (by decide : cellLoc 2 = SemLoc.dma 5)]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (features_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- and the ring after the last point is these again. -/
theorem ring_out (c : Dev nD) :
    ringAt c (V m c main_arg0) 25
      ⊢ iprop((∃ d, owns (c : Thread nD τ) scr3 fullShare d) ∗ (semVal ((c : Thread nD τ), SemLoc.dma 3) 0 ∗ semVal ((c : Thread nD τ), SemLoc.dma 4) 0 ∗ semVal ((c : Thread nD τ), SemLoc.dma 5) 0) ∗ bufPt c hbm0 (V m c main_arg0)) := by
  unfold ringAt; rw [if_neg (by decide)]
  iintro H
  ihave H' := (Ring.free3_of_At_last _ _ _ _) $$ H
  simp only [Ring.free, cell_zero c (by decide : cellLoc 0 = SemLoc.dma 3), cell_zero c (by decide : cellLoc 1 = SemLoc.dma 4), cell_zero c (by decide : cellLoc 2 = SemLoc.dma 5)]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (features_split (F := F) c (V m c main_arg0)).2; isplitl [HW0]; · iexact HW0
    isplitl [HW1]; · iexact HW1
    iexact HW2

/-! ## The names that the kernel gives to slots, blocks and cells -/

section Names
omit [FloatOps F]

/-- A piece of the ring's buffer at slot `s`'s place is slot `s`. -/
theorem slot_named {off : Fin 3 → ℕ} {s : Fin 3} (e : off = ![s.val, 0, 0]) (inb : ∀ a, off a + S1x2000x512.size a ≤ S3x2000x512.size a) :
    (scr3.slice (Rect.unit (s := S3x2000x512) off S1x2000x512.size inb) (fun _ => rfl)).squeeze S2000x512 squeezes_S1x2000x512_S2000x512 = slotRef s := by
  subst e; rfl
/-- A cell at cell `s`'s place is cell `s`. -/
theorem cell_named {off : Fin 1 → ℕ} {s : Fin 3} (e : off = ![s.val]) (inb : ∀ a, off a + S1.size a ≤ S3.size a) :
    (cc0_scratch11.slice (Rect.unit (s := S3) off S1.size inb)).squeeze S_ squeezes_S1_S_ = cellRef s := by
  subst e; rfl
/-- A piece of the node features at block `b`'s place is block `b`. -/
theorem block_named {off : Fin 2 → ℕ} {b : Fin 25} (e : off = ![2000 * b.val, 0]) (inb : ∀ a, off a + S2000x512.size a ≤ S50000x512.size a) :
    hbm0.slice (Rect.unit (s := S50000x512) off S2000x512.size inb) (fun _ => rfl) = blockRef b := by
  subst e; rfl

/-- The slot of transfer 0 of the first point. -/
@[sl_canon] theorem first_slot0 (t : Fin grid0.N) (h0 : isFirst (grid0.coords t)) (h1 : ¬prefetches (grid0.coords t)) (h2 : ¬isLast (grid0.coords t)) :
    (scr3.slice (Rect.unit (s := S3x2000x512) ![0, 0, 0] S1x2000x512.size inb_S3x2000x512_S1x2000x512_0_0_0) (fun _ => rfl)).squeeze S2000x512 squeezes_S1x2000x512_S2000x512 = slotRef (Ring.sl 3 t.val) :=
  slot_named (by rw [(isFirst_iff t).1 h0]; decide) _
/-- The cell of transfer 0 of the first point. -/
@[sl_canon] theorem first_cell0 (t : Fin grid0.N) (h0 : isFirst (grid0.coords t)) (h1 : ¬prefetches (grid0.coords t)) (h2 : ¬isLast (grid0.coords t)) :
    (cc0_scratch11.slice (Rect.unit (s := S3) ![0] S1.size inb_S3_S1_0)).squeeze S_ squeezes_S1_S_ = cellRef (Ring.sl 3 t.val) :=
  cell_named (by rw [(isFirst_iff t).1 h0]; decide) _
/-- The block of transfer 0 of the first point. -/
@[sl_canon] theorem first_block0 (t : Fin grid0.N) (h0 : isFirst (grid0.coords t)) (h1 : ¬prefetches (grid0.coords t)) (h2 : ¬isLast (grid0.coords t)) :
    hbm0.slice (Rect.unit (s := S50000x512) ![0, 0] S2000x512.size inb_S50000x512_S2000x512_0_0) (fun _ => rfl) = blockRef (Ring.bk 25 t.val) :=
  block_named (by rw [(isFirst_iff t).1 h0]; decide) _
/-- The slot of transfer 1 of the first point. -/
@[sl_canon] theorem first_slot1 (t : Fin grid0.N) (h0 : isFirst (grid0.coords t)) (h1 : ¬prefetches (grid0.coords t)) (h2 : ¬isLast (grid0.coords t)) :
    (scr3.slice (Rect.unit (s := S3x2000x512) ![1, 0, 0] S1x2000x512.size inb_S3x2000x512_S1x2000x512_1_0_0) (fun _ => rfl)).squeeze S2000x512 squeezes_S1x2000x512_S2000x512 = slotRef (Ring.sl 3 (t.val + 1)) :=
  slot_named (by rw [(isFirst_iff t).1 h0]; decide) _
/-- The cell of transfer 1 of the first point. -/
@[sl_canon] theorem first_cell1 (t : Fin grid0.N) (h0 : isFirst (grid0.coords t)) (h1 : ¬prefetches (grid0.coords t)) (h2 : ¬isLast (grid0.coords t)) :
    (cc0_scratch11.slice (Rect.unit (s := S3) ![1] S1.size inb_S3_S1_1)).squeeze S_ squeezes_S1_S_ = cellRef (Ring.sl 3 (t.val + 1)) :=
  cell_named (by rw [(isFirst_iff t).1 h0]; decide) _
/-- The block of transfer 1 of the first point. -/
@[sl_canon] theorem first_block1 (t : Fin grid0.N) (h0 : isFirst (grid0.coords t)) (h1 : ¬prefetches (grid0.coords t)) (h2 : ¬isLast (grid0.coords t)) :
    hbm0.slice (Rect.unit (s := S50000x512) ![2000, 0] S2000x512.size inb_S50000x512_S2000x512_2000_0) (fun _ => rfl) = blockRef (Ring.bk 25 (t.val + 1)) :=
  block_named (by rw [(isFirst_iff t).1 h0]; decide) _
/-- The slot of transfer 2 of the first point. -/
@[sl_canon] theorem first_slot2 (t : Fin grid0.N) (h0 : isFirst (grid0.coords t)) (h1 : ¬prefetches (grid0.coords t)) (h2 : ¬isLast (grid0.coords t)) :
    (scr3.slice (Rect.unit (s := S3x2000x512) ![2, 0, 0] S1x2000x512.size inb_S3x2000x512_S1x2000x512_2_0_0) (fun _ => rfl)).squeeze S2000x512 squeezes_S1x2000x512_S2000x512 = slotRef (Ring.sl 3 (t.val + 2)) :=
  slot_named (by rw [(isFirst_iff t).1 h0]; decide) _
/-- The cell of transfer 2 of the first point. -/
@[sl_canon] theorem first_cell2 (t : Fin grid0.N) (h0 : isFirst (grid0.coords t)) (h1 : ¬prefetches (grid0.coords t)) (h2 : ¬isLast (grid0.coords t)) :
    (cc0_scratch11.slice (Rect.unit (s := S3) ![2] S1.size inb_S3_S1_2)).squeeze S_ squeezes_S1_S_ = cellRef (Ring.sl 3 (t.val + 2)) :=
  cell_named (by rw [(isFirst_iff t).1 h0]; decide) _
/-- The block of transfer 2 of the first point. -/
@[sl_canon] theorem first_block2 (t : Fin grid0.N) (h0 : isFirst (grid0.coords t)) (h1 : ¬prefetches (grid0.coords t)) (h2 : ¬isLast (grid0.coords t)) :
    hbm0.slice (Rect.unit (s := S50000x512) ![4000, 0] S2000x512.size inb_S50000x512_S2000x512_4000_0) (fun _ => rfl) = blockRef (Ring.bk 25 (t.val + 2)) :=
  block_named (by rw [(isFirst_iff t).1 h0]; decide) _
/-- The slot that a point waits for. -/
@[sl_canon] theorem wait_slot (t : Fin grid0.N) :
    (scr3.slice (Rect.unit (s := S3x2000x512) (k0_off5 (grid0.coords t)) S1x2000x512.size (k0_off5_inb (grid0.coords t))) (fun _ => rfl)).squeeze S2000x512 squeezes_S1x2000x512_S2000x512 = slotRef (Ring.sl 3 t.val) :=
  slot_named ((by decide +kernel : ∀ t : Fin grid0.N, k0_off5 (grid0.coords t) = ![(Ring.sl 3 t.val).val, 0, 0]) t) _
/-- The cell that a point waits on. -/
@[sl_canon] theorem wait_cell (t : Fin grid0.N) :
    (cc0_scratch11.slice (Rect.unit (s := S3) (k0_off4 (grid0.coords t)) S1.size (k0_off4_inb (grid0.coords t)))).squeeze S_ squeezes_S1_S_ = cellRef (Ring.sl 3 t.val) :=
  cell_named ((by decide +kernel : ∀ t : Fin grid0.N, k0_off4 (grid0.coords t) = ![(Ring.sl 3 t.val).val]) t) _
/-- The slot that a transfer ahead fills. -/
@[sl_canon] theorem ahead_slot (t : Fin grid0.N) (h0 : ¬isFirst (grid0.coords t)) (h1 : prefetches (grid0.coords t)) (h2 : ¬isLast (grid0.coords t)) :
    (scr3.slice (Rect.unit (s := S3x2000x512) (k0_off2 (grid0.coords t)) S1x2000x512.size (k0_off2_inb (grid0.coords t) h1)) (fun _ => rfl)).squeeze S2000x512 squeezes_S1x2000x512_S2000x512 = slotRef (Ring.sl 3 (t.val + 2)) :=
  slot_named ((by decide +kernel : ∀ t : Fin grid0.N, prefetches (grid0.coords t) → k0_off2 (grid0.coords t) = ![(Ring.sl 3 (t.val + 2)).val, 0, 0]) t h1) _
/-- The cell that counts it. -/
@[sl_canon] theorem ahead_cell (t : Fin grid0.N) (h0 : ¬isFirst (grid0.coords t)) (h1 : prefetches (grid0.coords t)) (h2 : ¬isLast (grid0.coords t)) :
    (cc0_scratch11.slice (Rect.unit (s := S3) (k0_off1 (grid0.coords t)) S1.size (k0_off1_inb (grid0.coords t) h1))).squeeze S_ squeezes_S1_S_ = cellRef (Ring.sl 3 (t.val + 2)) :=
  cell_named ((by decide +kernel : ∀ t : Fin grid0.N, prefetches (grid0.coords t) → k0_off1 (grid0.coords t) = ![(Ring.sl 3 (t.val + 2)).val]) t h1) _
/-- The block that it moves. -/
@[sl_canon] theorem ahead_block (t : Fin grid0.N) (h0 : ¬isFirst (grid0.coords t)) (h1 : prefetches (grid0.coords t)) (h2 : ¬isLast (grid0.coords t)) :
    hbm0.slice (Rect.unit (s := S50000x512) (k0_off3 (grid0.coords t)) S2000x512.size (k0_off3_inb (grid0.coords t) h1)) (fun _ => rfl) = blockRef (Ring.bk 25 (t.val + 2)) :=
  block_named ((by decide +kernel : ∀ t : Fin grid0.N, prefetches (grid0.coords t) → k0_off3 (grid0.coords t) = ![2000 * (Ring.bk 25 (t.val + 2)).val, 0]) t h1) _
/-- The place from which a point loads its block: that of the slot it waited for. -/
theorem load_off : ∀ t : Fin grid0.N, k0_off7 (grid0.coords t) = ![(Ring.sl 3 t.val).val, 0, 0] := by decide +kernel
/-- The load's box lies inside that slot. -/
instance (priority := high) load_closed (t : Fin grid0.N) : ClosedOff (k0_off7 (grid0.coords t)) := ⟨![(Ring.sl 3 t.val).val, 0, 0], load_off t⟩
end Names

end Cert.Kernel.Tracked

end
-- ==== Proof.Run.Tile.lean ====
/- What one tile of the kernel computes, over the payloads of its memory operations, and the two reads of a whole buffer that the
   runs of the body meet: a load of contents known by value, and what one store over the whole buffer leaves. -/
module

public import proofs.«01_k».proof.Proof.Run.Ring
public import Idealize.ShloMosaic.Lib.WholeRead
public import Idealize.ShloMosaic.Lib.Pipeline.ValueKit.Basic

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-- A load of a whole buffer held by value reads that value. -/
theorem load_whole {sp : Space} {S : Shape} {e : EltTy} {M : Memref sig .tc sp S e} (h : M.IsWhole) (X : S.Idx → Elt F e)
    {off : Fin S.rank → ℕ} (inb : ∀ a, off a + S.size a ≤ S.size a) (h0 : ∀ a, off a = 0) :
    M.view.readAt (Elt F) (Rect.unit (s := S) off S.size inb).toLoadRect (h.unread X) = X := by
  have e := View.ld_unit_lit inb (M.view.read (Elt F) (h.unread X)) h0
  rw [h.read_unread] at e
  exact (congrArg (fun Y => View.ld Y (Rect.unit (s := S) off S.size inb)) (h.read_unread X)).trans e

/-- One store over a whole buffer leaves its payload, whatever was there. -/
theorem read_store {sp : Space} {S : Shape} {e : EltTy} (v : View sig .tc sp S e) (f : v.ty.Contents (Elt F))
    {off : Fin S.rank → ℕ} (inb : ∀ a, off a + S.size a ≤ S.size a) (h0 : ∀ a, off a = 0) (w : S.Idx → Elt F e)
    (L : List (View.Piece (Elt F) S e)) :
    v.read (Elt F) (v.writes (Elt F) f (⟨Rect.unit (s := S) off S.size inb, w⟩ :: L)) = w := by
  obtain rfl : off = fun _ => 0 := funext h0
  refine (View.read_writes_eq_canon v f _ fun y => ⟨_, List.mem_cons_self, ?_⟩).trans (View.canon_cons_unit_lit inb w L h0)
  show y ∈ (Rect.unit (s := S) _ _ inb).set
  rw [Rect.mem_set_unit]
  exact fun a => ⟨Nat.zero_le _, by simpa using (y a).isLt⟩

/-- A load of a whole buffer just stored over whole reads the payload. -/
theorem load_stored {sp : Space} {S : Shape} {e : EltTy} (v : View sig .tc sp S e)
    {off : Fin S.rank → ℕ} (inb : ∀ a, off a + S.size a ≤ S.size a) (h0 : ∀ a, off a = 0) (w : S.Idx → Elt F e)
    (L : List (View.Piece (Elt F) S e)) :
    v.readCov (⟨Rect.unit (s := S) off S.size inb, w⟩ :: L) (Rect.unit (s := S) off S.size inb).toLoadRect = w :=
  View.readCov_cons_toLoadRect v (Rect.unit (s := S) off S.size inb) w L

/-- The block of node features that point `t` loads: its ring slot with block `t` of the operand `X` landed in it. -/
def xblk (c : Dev nD) (t : Fin cfg0.N) (X : BufOf (F := F) c hbm0) : Vec F S1x2000x512 .f32 :=
  View.readAt (Elt F) scr3.view (Rect.unit (s := S3x2000x512) (k0_off7 (grid0.coords t)) S1x2000x512.size (k0_off7_inb (grid0.coords t))).toLoadRect
    ((slotRef (Ring.sl 3 t.val)).view.writes (Elt F) (slotRef (Ring.sl 3 t.val)).view.junk
      [⟨Rect.whole S2000x512, ReadAs.same.apply (View.read (Elt F) (blockRef (Ring.bk 25 t.val)).view X)⟩])

/-- The five arrays that every tile reads: the gate's two layers and the node network's first. -/
structure Weights (F : FTy → Type) [FloatOps F] where
  W1g : Vec F S512x512 .f32
  b1g : Vec F S1x512 .f32
  w2g : Vec F S1x512 .f32
  W1n : Vec F S512x512 .f32
  b1n : Vec F S1x512 .f32

/-- What is carried from tile to tile: the running maximum of the gates, the segments' sums of the shifted exponentials, and their
    sums weighted by the node network's hidden layer. -/
structure Acc (F : FTy → Type) [FloatOps F] where
  m : Vec F S1x1 .f32
  s : Vec F S256x1 .f32
  q : Vec F S256x512 .f32

/-- The accumulators as the first tile finds them: minus infinity and zeros. -/
def Acc.init : Acc F := ⟨k0_pay3, k0_pay4, k0_pay5⟩

/-- The accumulators after one more tile, its features `xb` and its graph numbers `bt`. -/
def Acc.step (w : Weights F) (xb : Vec F S1x2000x512 .f32) (bt : Vec F S1x2000x1 .i32) (a : Acc F) : Acc F where
  m := k0_pay10 (k0_pay7 xb w.W1g w.b1g w.w2g) a.m
  s := k0_pay13 (k0_pay7 xb w.W1g w.b1g w.w2g) bt a.m a.s
  q := k0_pay1 (k0_pay8 (k0_pay6 xb) w.W1n w.b1n) (k0_pay11 (k0_pay7 xb w.W1g w.b1g w.w2g) a.m)
    (k0_pay12 (k0_pay7 xb w.W1g w.b1g w.w2g) bt a.m) a.q

end Cert.Kernel.Tracked

end
-- ==== Proof.Run.Mid.lean ====
/- The kernel's body at a grid point, run with what its buffers hold KNOWN: the accumulators and the weights by value, the block of
   features by the transfer that landed it. One run per case of the body's conditionals (the first point, a point that starts a
   transfer, a point that starts none, the last point). -/
module

public import proofs.«01_k».proof.Proof.Run.Tile

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (t : Fin cfg0.N)
  (arg2 : Memref sig .tc .vmem S1x2000x1 .i32) (harg2 : arg2.IsWhole) (arg10 : Memref sig .tc .vmem S256x512 .f32) (harg10 : arg10.IsWhole)
  (arg11 : Memref sig .tc .vmem S1x1 .f32) (harg11 : arg11.IsWhole) (arg12 : Memref sig .tc .vmem S256x1 .f32) (harg12 : arg12.IsWhole)
  (arg13 : Memref sig .tc .vmem S256x512 .f32) (harg13 : arg13.IsWhole) (arg15 : Memref sig .tc .vmem S512x512 .f32) (harg15 : arg15.IsWhole)
  (arg16 : Memref sig .tc .vmem S1x512 .f32) (harg16 : arg16.IsWhole) (arg17 : Memref sig .tc .vmem S1x512 .f32) (harg17 : arg17.IsWhole)
  (arg18 : Memref sig .tc .vmem S512x512 .f32) (harg18 : arg18.IsWhole) (arg19 : Memref sig .tc .vmem S1x512 .f32) (harg19 : arg19.IsWhole)
  (arg20 : Memref sig .tc .vmem S512x512 .f32) (harg20 : arg20.IsWhole) (arg21 : Memref sig .tc .vmem S1x512 .f32) (harg21 : arg21.IsWhole)
  (bt : Vec F S1x2000x1 .i32) (X : BufOf (F := F) c hbm0) (a : Acc F) (w : Weights F) (W2n : Vec F S512x512 .f32) (b2n : Vec F S1x512 .f32)

/-- The accumulators' buffers hold `a`. -/
abbrev accHeld (a : Acc F) : sProp 𝕄 :=
  iprop(owns (c : Thread nD τ) arg11 fullShare a.m ∗ owns (c : Thread nD τ) arg12 fullShare a.s ∗ owns (c : Thread nD τ) arg13 fullShare a.q)

/-- The buffers of the arrays that every tile reads hold `w`. -/
abbrev weightsHeld (w : Weights F) : sProp 𝕄 :=
  iprop(owns (c : Thread nD τ) arg15 fullShare w.W1g ∗ owns (c : Thread nD τ) arg16 fullShare w.b1g ∗ owns (c : Thread nD τ) arg17 fullShare w.w2g
    ∗ owns (c : Thread nD τ) arg18 fullShare w.W1n ∗ owns (c : Thread nD τ) arg19 fullShare w.b1n)

/-- The body at point `t` on these buffers, to the continuation `K`. -/
abbrev bodyWp (K : PUnit → sProp 𝕄) : sProp 𝕄 :=
  wp frame (wpE (defs₀ (F := F)) Variants.none c none) Set.univ (cc0__body (grid0.coords t) (Memref.whole main_arg0) (Memref.isWhole_whole _) arg2 harg2 (Memref.whole main_arg2) (Memref.isWhole_whole _) (Memref.whole main_v1) (Memref.isWhole_whole _) (Memref.whole main_v2) (Memref.isWhole_whole _) (Memref.whole main_arg6) (Memref.isWhole_whole _) (Memref.whole main_v3) (Memref.isWhole_whole _) (Memref.whole main_arg8) (Memref.isWhole_whole _) (Memref.whole main_v4) (Memref.isWhole_whole _) arg10 harg10 arg11 harg11 arg12 harg12 arg13 harg13 scr3 (Memref.isWhole_whole _) arg15 harg15 arg16 harg16 arg17 harg17 arg18 harg18 arg19 harg19 arg20 harg20 arg21 harg21 cc0_scratch11 cc0_scratch12) K

set_option maxHeartbeats 1600000 in
/-- A point that starts the transfer of a later block (points 1 to 22): the accumulators take one step, and the ring moves on. -/
theorem runMid (hc0 : ¬isFirst (grid0.coords t)) (hc1 : prefetches (grid0.coords t)) (hc2 : ¬isLast (grid0.coords t)) (W : Waits sig Unit) (K : PUnit → sProp 𝕄) :
    iprop(owns (c : Thread nD τ) arg2 fullShare bt ∗ accHeld c arg11 arg12 arg13 a ∗ weightsHeld c arg15 arg16 arg17 arg18 arg19 w
        ∗ Ring.inflight (flightFull c X) (Ring.sl 3 t.val) (Ring.bk 25 t.val) ∗ Ring.inflight (flightFull c X) (Ring.sl 3 (t.val + 1)) (Ring.bk 25 (t.val + 1))
        ∗ Ring.free (cellZero c) (slotFull c X) (Ring.sl 3 (t.val + 2)) ∗ owes (c : Thread nD τ) 0 W
        ∗ (iprop(owns (c : Thread nD τ) arg2 fullShare bt ∗ accHeld c arg11 arg12 arg13 (a.step w (xblk c t X) bt) ∗ weightsHeld c arg15 arg16 arg17 arg18 arg19 w
          ∗ Ring.inflight (flightFull c X) (Ring.sl 3 (t.val + 1)) (Ring.bk 25 (t.val + 1)) ∗ Ring.inflight (flightFull c X) (Ring.sl 3 (t.val + 2)) (Ring.bk 25 (t.val + 2))
          ∗ Ring.free (cellZero c) (slotFull c X) (Ring.sl 3 t.val) ∗ (∃ W', owes (c : Thread nD τ) 0 W')) -∗ K ⟨⟩))
      ⊢ bodyWp c t arg2 harg2 arg10 harg10 arg11 harg11 arg12 harg12 arg13 harg13 arg15 harg15 arg16 harg16 arg17 harg17 arg18 harg18 arg19 harg19 arg20 harg20 arg21 harg21 K := by
  haveI : Fact (¬isFirst (grid0.coords t)) := ⟨hc0⟩
  haveI : Fact (prefetches (grid0.coords t)) := ⟨hc1⟩
  haveI : Fact (¬isLast (grid0.coords t)) := ⟨hc2⟩
  obtain ⟨dm, ds, dq⟩ := a
  obtain ⟨w1, w2, w3, w4, w5⟩ := w
  unfold bodyWp accHeld weightsHeld
  dsimp only
  simp only [cc0__body_eq_skeleton]; unfold cc0__body_skel
  simp only [k0_part3_eq_skeleton, k0_part4_eq_skeleton]
  unfold owns Ring.free Ring.inflight
  iintro ⟨⟨%f0, %hf0, H0⟩, ⟨⟨%fm, %hfm, Hm⟩, ⟨%fs, %hfs, Hs⟩, ⟨%fq, %hfq, Hq⟩⟩, ⟨⟨%f1, %hf1, H1⟩, ⟨%f2, %hf2, H2⟩, ⟨%f3, %hf3, H3⟩, ⟨%f4, %hf4, H4⟩, ⟨%f5, %hf5, H5⟩⟩, ⟨%ff0, Hf0, Hr0⟩, ⟨%ff1, Hf1, Hr1⟩, ⟨Hc2, ⟨%fs2, Hs2, Hw2⟩⟩, HW, Hk⟩
  ihave Hsp := (share_split c X (Ring.sl 3 (t.val + 2)) (Ring.bk 25 (t.val + 2))).1 $$ Hw2
  icases Hsp with ⟨Hh2, Hr2⟩
  obtain rfl := harg2.eq_unread hf0
  obtain rfl := harg11.eq_unread hfm
  obtain rfl := harg12.eq_unread hfs
  obtain rfl := harg13.eq_unread hfq
  obtain rfl := harg15.eq_unread hf1
  obtain rfl := harg16.eq_unread hf2
  obtain rfl := harg17.eq_unread hf3
  obtain rfl := harg18.eq_unread hf4
  obtain rfl := harg19.eq_unread hf5
  sl_exec (disch := first | sl_exact hc0 | sl_exact hc1 | sl_exact hc2)
  sl_step
  have e0 := load_whole harg2 bt inb_S1x2000x1_S1x2000x1_0_0_0 (by decide)
  have em := load_whole harg11 dm inb_S1x1_S1x1_0_0 (by decide)
  have es := load_whole harg12 ds inb_S256x1_S256x1_0_0 (by decide)
  have eq := load_whole harg13 dq inb_S256x512_S256x512_0_0 (by decide)
  have e1 := load_whole harg15 w1 inb_S512x512_S512x512_0_0 (by decide)
  have e2 := load_whole harg16 w2 inb_S1x512_S1x512_0_0 (by decide)
  have e3 := load_whole harg17 w3 inb_S1x512_S1x512_0_0 (by decide)
  have e4 := load_whole harg18 w4 inb_S512x512_S512x512_0_0 (by decide)
  have e5 := load_whole harg19 w5 inb_S1x512_S1x512_0_0 (by decide)
  iapply Hk
  isplitl [H0]
  · iexists _; isplitr; · ipureintro; exact hf0
    iexact H0
  isplitl [Hm Hs Hq]
  · isplitl [Hm]
    · iexists _; isplitr; swap; · iexact Hm
      ipureintro
      refine (read_store _ _ inb_S1x1_S1x1_0_0 (by decide) _ _).trans ?_
      delta runMid.sl.r_1
      rw [e1, e2, e3, em]; rfl
    isplitl [Hs]
    · iexists _; isplitr; swap; · iexact Hs
      ipureintro
      refine (read_store _ _ inb_S256x1_S256x1_0_0 (by decide) _ _).trans ?_
      delta runMid.sl.r_5 runMid.sl.r_1
      rw [e0, e1, e2, e3, em, es]; rfl
    iexists _; isplitr; swap; · iexact Hq
    ipureintro
    refine (read_store _ _ inb_S256x512_S256x512_0_0 (by decide) _ _).trans ?_
    delta runMid.sl.r_4 runMid.sl.r_3 runMid.sl.r_2 runMid.sl.r_1
    rw [e0, e1, e2, e3, e4, e5, em, eq]; rfl
  isplitl [H1 H2 H3 H4 H5]
  · isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  isplitl [Hf1 Hr1]
  · iexists _; isplitl [Hf1]; · iexact Hf1
    iexact Hr1
  isplitl [Hc2 Hr2]
  · iexists _; isplitl [Hc2]; · iexact Hc2
    iexact Hr2
  isplitl [Hf0 Hf0_dst Hf0_src Hr0]
  · isplitl [Hf0]; · iexact Hf0
    iexists _; isplitl [Hf0_dst]; · iexact Hf0_dst
    iapply (share_split c X (Ring.sl 3 t.val) (Ring.bk 25 t.val)).2; isplitl [Hf0_src]; · iexact Hf0_src
    iexact Hr0
  iexists _; iexact HW

end Cert.Kernel.Tracked

end
-- ==== Proof.Run.Tail.lean ====
/- The body at a point that starts no transfer and is not the last. -/
module

public import proofs.«01_k».proof.Proof.Run.Mid

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (t : Fin cfg0.N)
  (arg2 : Memref sig .tc .vmem S1x2000x1 .i32) (harg2 : arg2.IsWhole) (arg10 : Memref sig .tc .vmem S256x512 .f32) (harg10 : arg10.IsWhole)
  (arg11 : Memref sig .tc .vmem S1x1 .f32) (harg11 : arg11.IsWhole) (arg12 : Memref sig .tc .vmem S256x1 .f32) (harg12 : arg12.IsWhole)
  (arg13 : Memref sig .tc .vmem S256x512 .f32) (harg13 : arg13.IsWhole) (arg15 : Memref sig .tc .vmem S512x512 .f32) (harg15 : arg15.IsWhole)
  (arg16 : Memref sig .tc .vmem S1x512 .f32) (harg16 : arg16.IsWhole) (arg17 : Memref sig .tc .vmem S1x512 .f32) (harg17 : arg17.IsWhole)
  (arg18 : Memref sig .tc .vmem S512x512 .f32) (harg18 : arg18.IsWhole) (arg19 : Memref sig .tc .vmem S1x512 .f32) (harg19 : arg19.IsWhole)
  (arg20 : Memref sig .tc .vmem S512x512 .f32) (harg20 : arg20.IsWhole) (arg21 : Memref sig .tc .vmem S1x512 .f32) (harg21 : arg21.IsWhole)
  (bt : Vec F S1x2000x1 .i32) (X : BufOf (F := F) c hbm0) (a : Acc F) (w : Weights F) (W2n : Vec F S512x512 .f32) (b2n : Vec F S1x512 .f32)

set_option maxHeartbeats 1600000 in
/-- A point before the last that starts no transfer (point 23): the accumulators take one step. -/
theorem runTail (hc0 : ¬isFirst (grid0.coords t)) (hc1 : ¬prefetches (grid0.coords t)) (hc2 : ¬isLast (grid0.coords t)) (W : Waits sig Unit) (K : PUnit → sProp 𝕄) :
    iprop(owns (c : Thread nD τ) arg2 fullShare bt ∗ accHeld c arg11 arg12 arg13 a ∗ weightsHeld c arg15 arg16 arg17 arg18 arg19 w
        ∗ Ring.inflight (flightFull c X) (Ring.sl 3 t.val) (Ring.bk 25 t.val) ∗ owes (c : Thread nD τ) 0 W
        ∗ (iprop(owns (c : Thread nD τ) arg2 fullShare bt ∗ accHeld c arg11 arg12 arg13 (a.step w (xblk c t X) bt) ∗ weightsHeld c arg15 arg16 arg17 arg18 arg19 w
          ∗ Ring.free (cellZero c) (slotFull c X) (Ring.sl 3 t.val) ∗ (∃ W', owes (c : Thread nD τ) 0 W')) -∗ K ⟨⟩))
      ⊢ bodyWp c t arg2 harg2 arg10 harg10 arg11 harg11 arg12 harg12 arg13 harg13 arg15 harg15 arg16 harg16 arg17 harg17 arg18 harg18 arg19 harg19 arg20 harg20 arg21 harg21 K := by
  haveI : Fact (¬isFirst (grid0.coords t)) := ⟨hc0⟩
  haveI : Fact (¬prefetches (grid0.coords t)) := ⟨hc1⟩
  haveI : Fact (¬isLast (grid0.coords t)) := ⟨hc2⟩
  obtain ⟨dm, ds, dq⟩ := a
  obtain ⟨w1, w2, w3, w4, w5⟩ := w
  unfold bodyWp accHeld weightsHeld
  dsimp only
  simp only [cc0__body_eq_skeleton]; unfold cc0__body_skel
  simp only [k0_part3_eq_skeleton, k0_part4_eq_skeleton]
  unfold owns Ring.free Ring.inflight
  iintro ⟨⟨%f0, %hf0, H0⟩, ⟨⟨%fm, %hfm, Hm⟩, ⟨%fs, %hfs, Hs⟩, ⟨%fq, %hfq, Hq⟩⟩, ⟨⟨%f1, %hf1, H1⟩, ⟨%f2, %hf2, H2⟩, ⟨%f3, %hf3, H3⟩, ⟨%f4, %hf4, H4⟩, ⟨%f5, %hf5, H5⟩⟩, ⟨%ff0, Hf0, Hr0⟩, HW, Hk⟩
  obtain rfl := harg2.eq_unread hf0
  obtain rfl := harg11.eq_unread hfm
  obtain rfl := harg12.eq_unread hfs
  obtain rfl := harg13.eq_unread hfq
  obtain rfl := harg15.eq_unread hf1
  obtain rfl := harg16.eq_unread hf2
  obtain rfl := harg17.eq_unread hf3
  obtain rfl := harg18.eq_unread hf4
  obtain rfl := harg19.eq_unread hf5
  sl_exec (disch := first | sl_exact hc0 | sl_exact hc1 | sl_exact hc2)
  sl_step
  have e0 := load_whole harg2 bt inb_S1x2000x1_S1x2000x1_0_0_0 (by decide)
  have em := load_whole harg11 dm inb_S1x1_S1x1_0_0 (by decide)
  have es := load_whole harg12 ds inb_S256x1_S256x1_0_0 (by decide)
  have eq := load_whole harg13 dq inb_S256x512_S256x512_0_0 (by decide)
  have e1 := load_whole harg15 w1 inb_S512x512_S512x512_0_0 (by decide)
  have e2 := load_whole harg16 w2 inb_S1x512_S1x512_0_0 (by decide)
  have e3 := load_whole harg17 w3 inb_S1x512_S1x512_0_0 (by decide)
  have e4 := load_whole harg18 w4 inb_S512x512_S512x512_0_0 (by decide)
  have e5 := load_whole harg19 w5 inb_S1x512_S1x512_0_0 (by decide)
  iapply Hk
  isplitl [H0]
  · iexists _; isplitr; · ipureintro; exact hf0
    iexact H0
  isplitl [Hm Hs Hq]
  · isplitl [Hm]
    · iexists _; isplitr; swap; · iexact Hm
      ipureintro
      refine (read_store _ _ inb_S1x1_S1x1_0_0 (by decide) _ _).trans ?_
      delta runTail.sl.r_1
      rw [e1, e2, e3, em]; rfl
    isplitl [Hs]
    · iexists _; isplitr; swap; · iexact Hs
      ipureintro
      refine (read_store _ _ inb_S256x1_S256x1_0_0 (by decide) _ _).trans ?_
      delta runTail.sl.r_5 runTail.sl.r_1
      rw [e0, e1, e2, e3, em, es]; rfl
    iexists _; isplitr; swap; · iexact Hq
    ipureintro
    refine (read_store _ _ inb_S256x512_S256x512_0_0 (by decide) _ _).trans ?_
    delta runTail.sl.r_4 runTail.sl.r_3 runTail.sl.r_2 runTail.sl.r_1
    rw [e0, e1, e2, e3, e4, e5, em, eq]; rfl
  isplitl [H1 H2 H3 H4 H5]
  · isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  isplitl [Hf0 Hf0_dst Hf0_src Hr0]
  · isplitl [Hf0]; · iexact Hf0
    iexists _; isplitl [Hf0_dst]; · iexact Hf0_dst
    iapply (share_split c X (Ring.sl 3 t.val) (Ring.bk 25 t.val)).2; isplitl [Hf0_src]; · iexact Hf0_src
    iexact Hr0
  iexists _; iexact HW

end Cert.Kernel.Tracked

end
-- ==== Proof.Run.Last.lean ====
/- The body at the last point, which writes the output. -/
module

public import proofs.«01_k».proof.Proof.Run.Mid

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (t : Fin cfg0.N)
  (arg2 : Memref sig .tc .vmem S1x2000x1 .i32) (harg2 : arg2.IsWhole) (arg10 : Memref sig .tc .vmem S256x512 .f32) (harg10 : arg10.IsWhole)
  (arg11 : Memref sig .tc .vmem S1x1 .f32) (harg11 : arg11.IsWhole) (arg12 : Memref sig .tc .vmem S256x1 .f32) (harg12 : arg12.IsWhole)
  (arg13 : Memref sig .tc .vmem S256x512 .f32) (harg13 : arg13.IsWhole) (arg15 : Memref sig .tc .vmem S512x512 .f32) (harg15 : arg15.IsWhole)
  (arg16 : Memref sig .tc .vmem S1x512 .f32) (harg16 : arg16.IsWhole) (arg17 : Memref sig .tc .vmem S1x512 .f32) (harg17 : arg17.IsWhole)
  (arg18 : Memref sig .tc .vmem S512x512 .f32) (harg18 : arg18.IsWhole) (arg19 : Memref sig .tc .vmem S1x512 .f32) (harg19 : arg19.IsWhole)
  (arg20 : Memref sig .tc .vmem S512x512 .f32) (harg20 : arg20.IsWhole) (arg21 : Memref sig .tc .vmem S1x512 .f32) (harg21 : arg21.IsWhole)
  (bt : Vec F S1x2000x1 .i32) (X : BufOf (F := F) c hbm0) (a : Acc F) (w : Weights F) (W2n : Vec F S512x512 .f32) (b2n : Vec F S1x512 .f32)

set_option maxHeartbeats 1600000 in
/-- The last point: the accumulators take one step, and the output's buffer receives what they come to. -/
theorem runLast (hc0 : ¬isFirst (grid0.coords t)) (hc1 : ¬prefetches (grid0.coords t)) (hc2 : isLast (grid0.coords t)) (W : Waits sig Unit) (K : PUnit → sProp 𝕄) :
    iprop(owns (c : Thread nD τ) arg2 fullShare bt ∗ (∃ d, owns (c : Thread nD τ) arg10 fullShare d) ∗ accHeld c arg11 arg12 arg13 a ∗ weightsHeld c arg15 arg16 arg17 arg18 arg19 w
        ∗ owns (c : Thread nD τ) arg20 fullShare W2n ∗ owns (c : Thread nD τ) arg21 fullShare b2n
        ∗ Ring.inflight (flightFull c X) (Ring.sl 3 t.val) (Ring.bk 25 t.val) ∗ owes (c : Thread nD τ) 0 W
        ∗ (iprop(owns (c : Thread nD τ) arg2 fullShare bt ∗ owns (c : Thread nD τ) arg10 fullShare (k0_pay2 (a.step w (xblk c t X) bt).s (a.step w (xblk c t X) bt).q W2n b2n)
          ∗ accHeld c arg11 arg12 arg13 (a.step w (xblk c t X) bt) ∗ weightsHeld c arg15 arg16 arg17 arg18 arg19 w
          ∗ owns (c : Thread nD τ) arg20 fullShare W2n ∗ owns (c : Thread nD τ) arg21 fullShare b2n
          ∗ Ring.free (cellZero c) (slotFull c X) (Ring.sl 3 t.val) ∗ (∃ W', owes (c : Thread nD τ) 0 W')) -∗ K ⟨⟩))
      ⊢ bodyWp c t arg2 harg2 arg10 harg10 arg11 harg11 arg12 harg12 arg13 harg13 arg15 harg15 arg16 harg16 arg17 harg17 arg18 harg18 arg19 harg19 arg20 harg20 arg21 harg21 K := by
  haveI : Fact (¬isFirst (grid0.coords t)) := ⟨hc0⟩
  haveI : Fact (¬prefetches (grid0.coords t)) := ⟨hc1⟩
  haveI : Fact (isLast (grid0.coords t)) := ⟨hc2⟩
  obtain ⟨dm, ds, dq⟩ := a
  obtain ⟨w1, w2, w3, w4, w5⟩ := w
  unfold bodyWp accHeld weightsHeld
  dsimp only
  simp only [cc0__body_eq_skeleton]; unfold cc0__body_skel
  simp only [k0_part3_eq_skeleton, k0_part4_eq_skeleton]
  unfold owns Ring.free Ring.inflight
  iintro ⟨⟨%f0, %hf0, H0⟩, ⟨%d10, %f10, -, H10⟩, ⟨⟨%fm, %hfm, Hm⟩, ⟨%fs, %hfs, Hs⟩, ⟨%fq, %hfq, Hq⟩⟩, ⟨⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%ff0, Hf0, Hr0⟩, HW, Hk⟩
  obtain rfl := harg2.eq_unread hf0
  obtain rfl := harg11.eq_unread hfm
  obtain rfl := harg12.eq_unread hfs
  obtain rfl := harg13.eq_unread hfq
  obtain rfl := harg15.eq_unread hf1
  obtain rfl := harg16.eq_unread hf2
  obtain rfl := harg17.eq_unread hf3
  obtain rfl := harg18.eq_unread hf4
  obtain rfl := harg19.eq_unread hf5
  obtain rfl := harg20.eq_unread hf6
  obtain rfl := harg21.eq_unread hf7
  sl_exec (disch := first | sl_exact hc0 | sl_exact hc1 | sl_exact hc2)
  sl_step
  have e0 := load_whole harg2 bt inb_S1x2000x1_S1x2000x1_0_0_0 (by decide)
  have em := load_whole harg11 dm inb_S1x1_S1x1_0_0 (by decide)
  have es := load_whole harg12 ds inb_S256x1_S256x1_0_0 (by decide)
  have eq := load_whole harg13 dq inb_S256x512_S256x512_0_0 (by decide)
  have e1 := load_whole harg15 w1 inb_S512x512_S512x512_0_0 (by decide)
  have e2 := load_whole harg16 w2 inb_S1x512_S1x512_0_0 (by decide)
  have e3 := load_whole harg17 w3 inb_S1x512_S1x512_0_0 (by decide)
  have e4 := load_whole harg18 w4 inb_S512x512_S512x512_0_0 (by decide)
  have e5 := load_whole harg19 w5 inb_S1x512_S1x512_0_0 (by decide)
  have e6 := load_whole harg20 W2n inb_S512x512_S512x512_0_0 (by decide)
  have e7 := load_whole harg21 b2n inb_S1x512_S1x512_0_0 (by decide)
  iapply Hk
  isplitl [H0]
  · iexists _; isplitr; · ipureintro; exact hf0
    iexact H0
  isplitl [H10]
  · iexists _; isplitr; swap; · iexact H10
    ipureintro
    refine (read_store _ _ inb_S256x512_S256x512_0_0 (by decide) _ _).trans ?_
    delta runLast.sl.v82 runLast.sl.v83
    delta runLast.sl.Hs_1 runLast.sl.Hq_1
    erw [load_stored (S := S256x1) _ inb_S256x1_S256x1_0_0 (by decide), load_stored (S := S256x512) _ inb_S256x512_S256x512_0_0 (by decide)]
    delta runLast.sl.r_5 runLast.sl.r_4 runLast.sl.r_3 runLast.sl.r_2 runLast.sl.r_1
    rw [e6, e7, e0, e1, e2, e3, e4, e5, em, es, eq]; rfl
  isplitl [Hm Hs Hq]
  · isplitl [Hm]
    · iexists _; isplitr; swap; · iexact Hm
      ipureintro
      refine (read_store _ _ inb_S1x1_S1x1_0_0 (by decide) _ _).trans ?_
      delta runLast.sl.r_1
      rw [e1, e2, e3, em]; rfl
    isplitl [Hs]
    · iexists _; isplitr; swap; · iexact Hs
      ipureintro
      refine (read_store _ _ inb_S256x1_S256x1_0_0 (by decide) _ _).trans ?_
      delta runLast.sl.r_5 runLast.sl.r_1
      rw [e0, e1, e2, e3, em, es]; rfl
    iexists _; isplitr; swap; · iexact Hq
    ipureintro
    refine (read_store _ _ inb_S256x512_S256x512_0_0 (by decide) _ _).trans ?_
    delta runLast.sl.r_4 runLast.sl.r_3 runLast.sl.r_2 runLast.sl.r_1
    rw [e0, e1, e2, e3, e4, e5, em, eq]; rfl
  isplitl [H1 H2 H3 H4 H5]
  · isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  isplitl [H6]
  · iexists _; isplitr; · ipureintro; exact hf6
    iexact H6
  isplitl [H7]
  · iexists _; isplitr; · ipureintro; exact hf7
    iexact H7
  isplitl [Hf0 Hf0_dst Hf0_src Hr0]
  · isplitl [Hf0]; · iexact Hf0
    iexists _; isplitl [Hf0_dst]; · iexact Hf0_dst
    iapply (share_split c X (Ring.sl 3 t.val) (Ring.bk 25 t.val)).2; isplitl [Hf0_src]; · iexact Hf0_src
    iexact Hr0
  iexists _; iexact HW

end Cert.Kernel.Tracked

end
-- ==== Proof.Run.First.lean ====
/- The body at the first point, which brings the weights in and sets the accumulators. -/
module

public import proofs.«01_k».proof.Proof.Run.Mid

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (t : Fin cfg0.N)
  (arg2 : Memref sig .tc .vmem S1x2000x1 .i32) (harg2 : arg2.IsWhole) (arg10 : Memref sig .tc .vmem S256x512 .f32) (harg10 : arg10.IsWhole)
  (arg11 : Memref sig .tc .vmem S1x1 .f32) (harg11 : arg11.IsWhole) (arg12 : Memref sig .tc .vmem S256x1 .f32) (harg12 : arg12.IsWhole)
  (arg13 : Memref sig .tc .vmem S256x512 .f32) (harg13 : arg13.IsWhole) (arg15 : Memref sig .tc .vmem S512x512 .f32) (harg15 : arg15.IsWhole)
  (arg16 : Memref sig .tc .vmem S1x512 .f32) (harg16 : arg16.IsWhole) (arg17 : Memref sig .tc .vmem S1x512 .f32) (harg17 : arg17.IsWhole)
  (arg18 : Memref sig .tc .vmem S512x512 .f32) (harg18 : arg18.IsWhole) (arg19 : Memref sig .tc .vmem S1x512 .f32) (harg19 : arg19.IsWhole)
  (arg20 : Memref sig .tc .vmem S512x512 .f32) (harg20 : arg20.IsWhole) (arg21 : Memref sig .tc .vmem S1x512 .f32) (harg21 : arg21.IsWhole)
  (bt : Vec F S1x2000x1 .i32) (X : BufOf (F := F) c hbm0) (a : Acc F) (w : Weights F) (W2n : Vec F S512x512 .f32) (b2n : Vec F S1x512 .f32)

/-- A load of a whole buffer that a transfer has just filled reads what the transfer brought. -/
theorem load_landed {sp : Space} {S : Shape} {e : EltTy} (v : View sig .tc sp S e) {off : Fin S.rank → ℕ}
    (inb : ∀ a, off a + S.size a ≤ S.size a) (h0 : ∀ a, off a = 0) (x : S.Idx → Elt F e) :
    v.readCov [⟨Rect.whole S, x⟩] (Rect.unit (s := S) off S.size inb).toLoadRect = x := by
  exact (View.ld_unit_lit inb (v.read (Elt F) _) h0).trans (View.read_writes_whole _ _ _)

/-- The arrays every tile reads, as the first point finds them in memory. -/
abbrev weightsOf (Y1 : BufOf (F := F) c hbm1) (Y2 : BufOf (F := F) c hbm2) (Y3 : BufOf (F := F) c hbm3) (Y4 : BufOf (F := F) c hbm4) (Y5 : BufOf (F := F) c hbm5) : Weights F :=
  ⟨(Memref.whole main_arg2).view.read (Elt F) Y1, (Memref.whole main_v1).view.read (Elt F) Y2, (Memref.whole main_v2).view.read (Elt F) Y3,
    (Memref.whole main_arg6).view.read (Elt F) Y4, (Memref.whole main_v3).view.read (Elt F) Y5⟩

set_option maxHeartbeats 1600000 in
/-- The first point: the weights are brought in, the accumulators set and stepped once, and three transfers of blocks started. -/
theorem runFirst (Y1 : BufOf (F := F) c hbm1) (Y2 : BufOf (F := F) c hbm2) (Y3 : BufOf (F := F) c hbm3) (Y4 : BufOf (F := F) c hbm4) (Y5 : BufOf (F := F) c hbm5) (Y6 : BufOf (F := F) c hbm6) (Y7 : BufOf (F := F) c hbm7) (hc0 : isFirst (grid0.coords t)) (hc1 : ¬prefetches (grid0.coords t)) (hc2 : ¬isLast (grid0.coords t)) (W : Waits sig Unit) (K : PUnit → sProp 𝕄) :
    iprop(owns (c : Thread nD τ) arg2 fullShare bt ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
        ∗ bufPt c hbm1 Y1 ∗ bufPt c hbm2 Y2 ∗ bufPt c hbm3 Y3 ∗ bufPt c hbm4 Y4 ∗ bufPt c hbm5 Y5 ∗ bufPt c hbm6 Y6 ∗ bufPt c hbm7 Y7
        ∗ Ring.free (cellZero c) (slotFull c X) (Ring.sl 3 t.val) ∗ Ring.free (cellZero c) (slotFull c X) (Ring.sl 3 (t.val + 1)) ∗ Ring.free (cellZero c) (slotFull c X) (Ring.sl 3 (t.val + 2)) ∗ owes (c : Thread nD τ) 0 W
        ∗ (iprop(owns (c : Thread nD τ) arg2 fullShare bt ∗ accHeld c arg11 arg12 arg13 (Acc.init.step (weightsOf c Y1 Y2 Y3 Y4 Y5) (xblk c t X) bt) ∗ weightsHeld c arg15 arg16 arg17 arg18 arg19 (weightsOf c Y1 Y2 Y3 Y4 Y5)
          ∗ owns (c : Thread nD τ) arg20 fullShare ((Memref.whole main_arg8).view.read (Elt F) Y6) ∗ owns (c : Thread nD τ) arg21 fullShare ((Memref.whole main_v4).view.read (Elt F) Y7)
          ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
          ∗ bufPt c hbm1 Y1 ∗ bufPt c hbm2 Y2 ∗ bufPt c hbm3 Y3 ∗ bufPt c hbm4 Y4 ∗ bufPt c hbm5 Y5 ∗ bufPt c hbm6 Y6 ∗ bufPt c hbm7 Y7
          ∗ Ring.inflight (flightFull c X) (Ring.sl 3 (t.val + 1)) (Ring.bk 25 (t.val + 1)) ∗ Ring.inflight (flightFull c X) (Ring.sl 3 (t.val + 2)) (Ring.bk 25 (t.val + 2))
          ∗ Ring.free (cellZero c) (slotFull c X) (Ring.sl 3 t.val) ∗ (∃ W', owes (c : Thread nD τ) 0 W')) -∗ K ⟨⟩))
      ⊢ bodyWp c t arg2 harg2 arg10 harg10 arg11 harg11 arg12 harg12 arg13 harg13 arg15 harg15 arg16 harg16 arg17 harg17 arg18 harg18 arg19 harg19 arg20 harg20 arg21 harg21 K := by
  haveI : Fact (isFirst (grid0.coords t)) := ⟨hc0⟩
  haveI : Fact (¬prefetches (grid0.coords t)) := ⟨hc1⟩
  haveI : Fact (¬isLast (grid0.coords t)) := ⟨hc2⟩
  unfold bodyWp accHeld weightsHeld
  simp only [cc0__body_eq_skeleton]; unfold cc0__body_skel
  simp only [k0_part3_eq_skeleton, k0_part2_eq_skeleton, k0_part1_eq_skeleton, k0_part4_eq_skeleton]
  have hcanon0 := first_slot0 t hc0 hc1 hc2
  have hcanon1 := first_cell0 t hc0 hc1 hc2
  have hcanon2 := first_block0 t hc0 hc1 hc2
  have hcanon3 := first_slot1 t hc0 hc1 hc2
  have hcanon4 := first_cell1 t hc0 hc1 hc2
  have hcanon5 := first_block1 t hc0 hc1 hc2
  have hcanon6 := first_slot2 t hc0 hc1 hc2
  have hcanon7 := first_cell2 t hc0 hc1 hc2
  have hcanon8 := first_block2 t hc0 hc1 hc2
  unfold owns Ring.free Ring.inflight
  iintro ⟨⟨%f0, %hf0, H0⟩, ⟨%dm, %fm, -, Hm⟩, ⟨%ds, %fs, -, Hs⟩, ⟨%dq, %fq, -, Hq⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hq3, Hq4, Hq5, Hq6, Hq7, Hq8, Hq9, Hh1, Hh2, Hh3, Hh4, Hh5, Hh6, Hh7, ⟨Hc0, ⟨%fs0, Hs0, Hw0⟩⟩, ⟨Hc1, ⟨%fs1, Hs1, Hw1⟩⟩, ⟨Hc2, ⟨%fs2, Hs2, Hw2⟩⟩, HW, Hk⟩
  ihave Hsp := (share_split c X (Ring.sl 3 t.val) (Ring.bk 25 t.val)).1 $$ Hw0
  icases Hsp with ⟨Hh0, Hr0⟩
  ihave Hsp := (share_split c X (Ring.sl 3 (t.val + 1)) (Ring.bk 25 (t.val + 1))).1 $$ Hw1
  icases Hsp with ⟨Hh01, Hr1⟩
  ihave Hsp := (share_split c X (Ring.sl 3 (t.val + 2)) (Ring.bk 25 (t.val + 2))).1 $$ Hw2
  icases Hsp with ⟨Hh02, Hr2⟩
  obtain rfl := harg2.eq_unread hf0
  sl_exec (disch := first | sl_exact hc0 | sl_exact hc1 | sl_exact hc2)
  sl_step
  have e0 := load_whole harg2 bt inb_S1x2000x1_S1x2000x1_0_0_0 (by decide)
  have g1 : runFirst.sl.v21 c arg15 Y1 = (Memref.whole main_arg2).view.read (Elt F) Y1 := by
    delta runFirst.sl.v21 runFirst.sl.dma6; exact load_landed _ inb_S512x512_S512x512_0_0 (by decide) _
  have g2 : runFirst.sl.v23 c arg16 Y2 = (Memref.whole main_v1).view.read (Elt F) Y2 := by
    delta runFirst.sl.v23 runFirst.sl.dma6_1; exact load_landed _ inb_S1x512_S1x512_0_0 (by decide) _
  have g3 : runFirst.sl.v28 c arg17 Y3 = (Memref.whole main_v2).view.read (Elt F) Y3 := by
    delta runFirst.sl.v28 runFirst.sl.dma6_2; exact load_landed _ inb_S1x512_S1x512_0_0 (by decide) _
  have g4 : runFirst.sl.v33 c arg18 Y4 = (Memref.whole main_arg6).view.read (Elt F) Y4 := by
    delta runFirst.sl.v33 runFirst.sl.dma6_3; exact load_landed _ inb_S512x512_S512x512_0_0 (by decide) _
  have g5 : runFirst.sl.v35 c arg19 Y5 = (Memref.whole main_v3).view.read (Elt F) Y5 := by
    delta runFirst.sl.v35 runFirst.sl.dma6_4; exact load_landed _ inb_S1x512_S1x512_0_0 (by decide) _
  have gm : runFirst.sl.v48 (F := F) c arg11 = Acc.init.m := by
    delta runFirst.sl.v48; exact load_stored (S := S1x1) _ inb_S1x1_S1x1_0_0 (by decide) _ _
  have gs : runFirst.sl.v64 (F := F) c arg12 = Acc.init.s := by
    delta runFirst.sl.v64; exact load_stored (S := S256x1) _ inb_S256x1_S256x1_0_0 (by decide) _ _
  have gq : runFirst.sl.v72 (F := F) c arg13 = Acc.init.q := by
    delta runFirst.sl.v72; exact load_stored (S := S256x512) _ inb_S256x512_S256x512_0_0 (by decide) _ _
  iapply Hk
  isplitl [H0]
  · iexists _; isplitr; · ipureintro; exact hf0
    iexact H0
  isplitl [Hm Hs Hq]
  · isplitl [Hm]
    · iexists _; isplitr; swap; · iexact Hm
      ipureintro
      refine (read_store _ _ inb_S1x1_S1x1_0_0 (by decide) _ _).trans ?_
      delta runFirst.sl.r_1
      rw [g1, g2, g3, gm]; rfl
    isplitl [Hs]
    · iexists _; isplitr; swap; · iexact Hs
      ipureintro
      refine (read_store _ _ inb_S256x1_S256x1_0_0 (by decide) _ _).trans ?_
      delta runFirst.sl.r_5 runFirst.sl.r_1
      rw [g1, g2, g3, gm, gs, e0]; rfl
    iexists _; isplitr; swap; · iexact Hq
    ipureintro
    refine (read_store _ _ inb_S256x512_S256x512_0_0 (by decide) _ _).trans ?_
    delta runFirst.sl.r_4 runFirst.sl.r_3 runFirst.sl.r_2 runFirst.sl.r_1
    rw [g1, g2, g3, g4, g5, gm, gq, e0]; rfl
  isplitl [H1 H2 H3 H4 H5]
  · isplitl [H1]
    · iexists _; isplitr; swap; · iexact H1
      ipureintro; exact View.read_writes_whole _ _ _
    isplitl [H2]
    · iexists _; isplitr; swap; · iexact H2
      ipureintro; exact View.read_writes_whole _ _ _
    isplitl [H3]
    · iexists _; isplitr; swap; · iexact H3
      ipureintro; exact View.read_writes_whole _ _ _
    isplitl [H4]
    · iexists _; isplitr; swap; · iexact H4
      ipureintro; exact View.read_writes_whole _ _ _
    iexists _; isplitr; swap; · iexact H5
    ipureintro; exact View.read_writes_whole _ _ _
  isplitl [H6]
  · iexists _; isplitr; swap; · iexact H6
    ipureintro; exact View.read_writes_whole _ _ _
  isplitl [H7]
  · iexists _; isplitr; swap; · iexact H7
    ipureintro; exact View.read_writes_whole _ _ _
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hc1 Hr1]
  · iexists _; isplitl [Hc1]; · iexact Hc1
    iexact Hr1
  isplitl [Hc2 Hr2]
  · iexists _; isplitl [Hc2]; · iexact Hc2
    iexact Hr2
  isplitl [Hc0 Hs0 Hh0 Hr0]
  · isplitl [Hc0]; · iexact Hc0
    iexists _; isplitl [Hs0]; · iexact Hs0
    iapply (share_split c X (Ring.sl 3 t.val) (Ring.bk 25 t.val)).2; isplitl [Hh0]; · iexact Hh0
    iexact Hr0
  iexists _; iexact HW

end Cert.Kernel.Tracked

end
-- ==== Proof.Run.Region.lean ====
/- The kernel's region: the state its buffers hold before each point, the body's obligation from the four runs, and what the output
   array holds at the end. -/
module

public import proofs.«01_k».proof.Proof.Run.Tail
public import proofs.«01_k».proof.Proof.Run.Last
public import proofs.«01_k».proof.Proof.Run.First

@[expose] public section

set_option maxRecDepth 16384

noncomputable section

namespace Cert.Kernel.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights every tile reads, from the arrays at the region's entry. -/
def wts (c : Dev nD) : Weights F := weightsOf c (V m c main_arg2) (V m c main_v1) (V m c main_v2) (V m c main_arg6) (V m c main_v3)

/-- The accumulators before point `k`: the initial ones, stepped once per block. -/
def accAt (c : Dev nD) : ℕ → Acc F
  | 0 => Acc.init
  | k + 1 => if h : k < cfg0.N then (accAt c k).step (wts m c) (xblk c ⟨k, h⟩ (V m c main_arg0)) (iblk m c 0 ⟨k, h⟩) else accAt c k

theorem accAt_succ (c : Dev nD) (t : Fin cfg0.N) :
    accAt m c (t.val + 1) = (accAt m c t.val).step (wts m c) (xblk c t (V m c main_arg0)) (iblk m c 0 t) := by
  obtain ⟨k, h⟩ := t
  show (if h : k < cfg0.N then _ else _) = _
  rw [dif_pos h]

/-- The second layer of the node network: its matrix, -/
def lin2 (c : Dev nD) : Vec F S512x512 .f32 := (Memref.whole main_arg8).view.read (Elt F) (V m c main_arg8)
/-- and its bias. -/
def bias2 (c : Dev nD) : Vec F S1x512 .f32 := (Memref.whole main_v4).view.read (Elt F) (V m c main_v4)

/-- What the last point writes: the second layer applied to the accumulated sums. -/
def result (c : Dev nD) : Vec F S256x512 .f32 := k0_pay2 (accAt m c 25).s (accAt m c 25).q (lin2 m c) (bias2 m c)

/-- The buffers the points share, before point `k`: anything before the first, then the accumulators and the weights. -/
def shared (c : Dev nD) (k : ℕ) : sProp 𝕄 :=
  if k = 0 then iprop((∃ d, owns (c : Thread nD τ) scr0 fullShare d) ∗ (∃ d, owns (c : Thread nD τ) scr1 fullShare d) ∗ (∃ d, owns (c : Thread nD τ) scr2 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d))
  else iprop(accHeld c scr0 scr1 scr2 (accAt m c k) ∗ weightsHeld c scr4 scr5 scr6 scr7 scr8 (wts m c)
    ∗ owns (c : Thread nD τ) scr9 fullShare (lin2 m c) ∗ owns (c : Thread nD τ) scr10 fullShare (bias2 m c))

/-- What only the first point uses: the transfers' semaphores at zero and the weights' arrays; and the generator's register. -/
def entry (c : Dev nD) : sProp 𝕄 := iprop((∃ r, prngReg c r) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ bufPt c hbm1 (V m c main_arg2) ∗ bufPt c hbm2 (V m c main_v1) ∗ bufPt c hbm3 (V m c main_v2) ∗ bufPt c hbm4 (V m c main_arg6) ∗ bufPt c hbm5 (V m c main_v3) ∗ bufPt c hbm6 (V m c main_arg8) ∗ bufPt c hbm7 (V m c main_v4))

/-- The invariant before point `k`. -/
def inv (c : Dev nD) (k : ℕ) : sProp 𝕄 := iprop(shared m c k ∗ entry m c ∗ ringAt c (V m c main_arg0) k)

/-- The proof data of the pipeline: the input's buffer at its block, the output's at the result. -/
def datsT (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => result m c
  Φ t := inv m c t.val
  q _ := fullShare
  owed _ := 0

theorem datsT_A (c : Dev nD) (w : Fin cfg0.W) : (datsT m 0 c).A w = V m c (Pipeline.arrRef spec0 w) := by dsimp only [datsT]
theorem inv_castSucc (c : Dev nD) (t : Fin cfg0.N) : (datsT m 0 c).Φ t.castSucc = inv m c t.val := by
  dsimp only [datsT]; simp only [Fin.coe_castSucc]
theorem inv_succ (c : Dev nD) (t : Fin cfg0.N) : (datsT m 0 c).Φ t.succ = inv m c (t.val + 1) := by
  dsimp only [datsT]; simp only [Fin.val_succ]
theorem after_in (c : Dev nD) (t : Fin cfg0.N) : (datsT m 0 c).after 0 t = iblk m c 0 t := by dsimp only [datsT]
theorem after_out (c : Dev nD) (t : Fin cfg0.N) : (datsT m 0 c).after 1 t = result m c := by dsimp only [datsT]
theorem before_in (c : Dev nD) (t : Fin cfg0.N) (d) : (datsT m 0 c).before 0 t d = iblk m c 0 t :=
  ((datsT m 0 c).before_in_eq_fetched 0 rfl (fun _ => rfl) (fun _ _ _ => rfl)
      (fun t => by rw [after_in]; unfold Dat.blockOf iblk; rw [datsT_A]) t d).trans
    (by unfold Dat.fetched Dat.blockOf iblk; rw [datsT_A]; rfl)

/-- The input's buffer is left at its block. -/
theorem leaves_in (c : Dev nD) (t : Fin cfg0.N) :
    (datsT m 0 c).leavesExact 0 t = owns (c : Thread nD τ) (stageIn t) fullShare (iblk m c 0 t) := by
  unfold Dat.leavesExact; rw [show cfg0.idle 0 (grid0.coords t) = false from rfl, after_in]

/-- The output's buffer is untouched before the last point, -/
theorem leaves_out_idle (c : Dev nD) (t : Fin cfg0.N) (h2 : ¬isLast (grid0.coords t)) :
    (datsT m 0 c).leavesExact 1 t = iprop(∃ d, owns (c : Thread nD τ) (stageOut t) fullShare ((datsT m 0 c).before 1 t d)) := by
  refine Dat.leavesExact_idle _ 1 t ?_ ?_
  · show (!(k0_cond3 (grid0.coords t) == 1#1)) = true
    have h : ¬k0_cond3 (grid0.coords t) = 1#1 := h2
    simp [h]
  · refine Bool.eq_false_iff.2 fun hf => h2 ((isLast_iff t).2 ?_)
    have := (flush0_1 t).1 hf
    have := lt_of_lt_of_eq t.isLt (show cfg0.N = 25 from N_0)
    omega

/-- and holds the result after it. -/
theorem leaves_out_last (c : Dev nD) (t : Fin cfg0.N) (h2 : isLast (grid0.coords t)) :
    (datsT m 0 c).leavesExact 1 t = owns (c : Thread nD τ) (stageOut t) fullShare (result m c) := by
  have hi : cfg0.idle 1 (grid0.coords t) = false := by
    show (!(k0_cond3 (grid0.coords t) == 1#1)) = false
    have h : k0_cond3 (grid0.coords t) = 1#1 := h2
    simp [h]
  unfold Dat.leavesExact; rw [hi, after_out]

/-- What the body is called with at point `t`, -/
def preAt (c : Dev nD) (t : Fin cfg0.N) : sProp 𝕄 :=
  iprop((datsT m 0 c).Φ t.castSucc ∗ (datsT m 0 c).owesAt () t.castSucc
    ∗ (∃ d, owns (c : Thread nD τ) (stageIn t) fullShare ((datsT m 0 c).before 0 t d))
    ∗ (∃ d, owns (c : Thread nD τ) (stageOut t) fullShare ((datsT m 0 c).before 1 t d)))

/-- and what it returns. -/
def postAt (c : Dev nD) (t : Fin cfg0.N) : sProp 𝕄 :=
  iprop((datsT m 0 c).Φ t.succ ∗ (datsT m 0 c).owesAt () t.succ ∗ (datsT m 0 c).leavesExact 0 t ∗ (datsT m 0 c).leavesExact 1 t)

/-- The body's triple at point `t`. -/
abbrev sound (c : Dev nD) (t : Fin cfg0.N) : Prop :=
  preAt m c t ⊢ wp frame (wpE (defs₀ (F := F)) Variants.none c none) Set.univ (bodyAt0 t) (fun _ => postAt m c t)

set_option maxHeartbeats 1600000 in
/-- The first point. -/
theorem sound_first (c : Dev nD) (t : Fin cfg0.N) (hc0 : isFirst (grid0.coords t)) (hc1 : ¬prefetches (grid0.coords t)) (hc2 : ¬isLast (grid0.coords t)) :
    sound m c t := by
  unfold sound preAt postAt bodyAt0
  simp only [before_in]
  rw [inv_castSucc, inv_succ, leaves_in, leaves_out_idle m c t hc2]
  unfold Dat.owesAt Pipeline.owesWithin
  rw [show (datsT m 0 c).owed t.castSucc = 0 from rfl, show (datsT m 0 c).owed t.succ = 0 from rfl]
  unfold inv ringAt shared
  have hK := (isFirst_iff t).1 hc0
  rw [if_pos hK, if_neg (show ¬t.val + 1 = 0 by omega), if_pos hK, if_neg (show ¬t.val + 1 = 0 by omega), accAt_succ]
  rw [show accAt m c t.val = Acc.init from by rw [hK]; rfl]
  rw [Ring.At₀_eq3' _ _ _ t.val hK (by decide : 3 ≤ 25), Ring.At3_one' _ _ _ _ t.val hK (by decide : 3 ≤ 25)]
  unfold entry wts lin2 bias2
  iintro ⟨⟨⟨HS0, HS1, HS2, HS4, HS5, HS6, HS7, HS8, HS9, HS10⟩, ⟨Hg, Hq3, Hq4, Hq5, Hq6, Hq7, Hq8, Hq9, Hh1, Hh2, Hh3, Hh4, Hh5, Hh6, Hh7⟩, ⟨-, Hr0, Hr1, Hr2⟩⟩, ⟨%W, -, HW⟩, ⟨%d0, H0⟩, H1⟩
  iapply (runFirst c t _ _ _ _ _ _ _ _ _ _ _ _ _ _ _ _ _ _ _ _ _ _ _ _ (iblk m c 0 t) (V m c main_arg0) (V m c main_arg2) (V m c main_v1) (V m c main_v2) (V m c main_arg6) (V m c main_v3) (V m c main_arg8) (V m c main_v4) hc0 hc1 hc2 W _)
  isplitl [H0]; · iexact H0
  isplitl [HS0]; · iexact HS0
  isplitl [HS1]; · iexact HS1
  isplitl [HS2]; · iexact HS2
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hr0]; · iexact Hr0
  isplitl [Hr1]; · iexact Hr1
  isplitl [Hr2]; · iexact Hr2
  isplitl [HW]; · iexact HW
  iintro ⟨H0, Ha, Hw, HS9, HS10, Hq3, Hq4, Hq5, Hq6, Hq7, Hq8, Hq9, Hh1, Hh2, Hh3, Hh4, Hh5, Hh6, Hh7, Hr0, Hr1, Hr2, ⟨%W', HW⟩⟩
  isplitl [Ha Hw HS9 HS10 Hg Hq3 Hq4 Hq5 Hq6 Hq7 Hq8 Hq9 Hh1 Hh2 Hh3 Hh4 Hh5 Hh6 Hh7 Hr0 Hr1 Hr2]
  · isplitl [Ha Hw HS9 HS10]
    · isplitl [Ha]; · iexact Ha
      isplitl [Hw]; · iexact Hw
      isplitl [HS9]; · iexact HS9
      iexact HS10
    isplitl [Hg Hq3 Hq4 Hq5 Hq6 Hq7 Hq8 Hq9 Hh1 Hh2 Hh3 Hh4 Hh5 Hh6 Hh7]
    · isplitl [Hg]; · iexact Hg
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      iexact Hh7
    iapply (Ring.with_homes (Idealize.SL.BI.Entails.refl _))
    isplitl [Hr0]; · iexact Hr0
    isplitl [Hr1]; · iexact Hr1
    iexact Hr2
  isplitl [HW]
  · iexists W'; isplitr; · ipureintro; exact fun _ _ => Or.inl trivial
    iexact HW
  isplitl [H0]; · iexact H0
  iexact H1

set_option maxHeartbeats 1600000 in
/-- A point that starts a transfer. -/
theorem sound_mid (c : Dev nD) (t : Fin cfg0.N) (hc0 : ¬isFirst (grid0.coords t)) (hc1 : prefetches (grid0.coords t)) (hc2 : ¬isLast (grid0.coords t)) :
    sound m c t := by
  unfold sound preAt postAt bodyAt0
  simp only [before_in]
  rw [inv_castSucc, inv_succ, leaves_in, leaves_out_idle m c t hc2]
  unfold Dat.owesAt Pipeline.owesWithin
  rw [show (datsT m 0 c).owed t.castSucc = 0 from rfl, show (datsT m 0 c).owed t.succ = 0 from rfl]
  unfold inv ringAt shared
  have hK := (prefetches_iff t).1 hc1
  have hB : t.val + 2 < 25 := by omega
  rw [if_neg (show ¬t.val = 0 by omega), if_neg (show ¬t.val + 1 = 0 by omega), if_neg (show ¬t.val = 0 by omega), if_neg (show ¬t.val + 1 = 0 by omega), accAt_succ]
  rw [Ring.At3_here _ _ _ _ t.val hB, Ring.At3_next _ _ _ _ t.val hB, Ring.slotAt3_next0 _ _ _ t.val (by omega), Ring.slotAt3_next1 _ _ _ t.val hB]
  iintro ⟨⟨⟨Ha, Hw, HS9, HS10⟩, He, ⟨-, Hr0, Hr1, Hr2⟩⟩, ⟨%W, -, HW⟩, ⟨%d0, H0⟩, H1⟩
  iapply (runMid c t _ _ _ _ _ _ _ _ _ _ _ _ _ _ _ _ _ _ _ _ _ _ _ _ (iblk m c 0 t) (V m c main_arg0) (accAt m c t.val) (wts m c) hc0 hc1 hc2 W _)
  isplitl [H0]; · iexact H0
  isplitl [Ha]; · iexact Ha
  isplitl [Hw]; · iexact Hw
  isplitl [Hr0]; · iexact Hr0
  isplitl [Hr1]; · iexact Hr1
  isplitl [Hr2]; · iexact Hr2
  isplitl [HW]; · iexact HW
  iintro ⟨H0, Ha, Hw, Hr0, Hr1, Hr2, ⟨%W', HW⟩⟩
  isplitl [Ha Hw HS9 HS10 He Hr0 Hr1 Hr2]
  · isplitl [Ha Hw HS9 HS10]
    · isplitl [Ha]; · iexact Ha
      isplitl [Hw]; · iexact Hw
      isplitl [HS9]; · iexact HS9
      iexact HS10
    isplitl [He]; · iexact He
    iapply (Ring.with_homes (Idealize.SL.BI.Entails.refl _))
    isplitl [Hr0]; · iexact Hr0
    isplitl [Hr1]; · iexact Hr1
    iexact Hr2
  isplitl [HW]
  · iexists W'; isplitr; · ipureintro; exact fun _ _ => Or.inl trivial
    iexact HW
  isplitl [H0]; · iexact H0
  iexact H1

set_option maxHeartbeats 1600000 in
/-- A point that starts none, before the last. -/
theorem sound_tail (c : Dev nD) (t : Fin cfg0.N) (hc0 : ¬isFirst (grid0.coords t)) (hc1 : ¬prefetches (grid0.coords t)) (hc2 : ¬isLast (grid0.coords t)) :
    sound m c t := by
  unfold sound preAt postAt bodyAt0
  simp only [before_in]
  rw [inv_castSucc, inv_succ, leaves_in, leaves_out_idle m c t hc2]
  unfold Dat.owesAt Pipeline.owesWithin
  rw [show (datsT m 0 c).owed t.castSucc = 0 from rfl, show (datsT m 0 c).owed t.succ = 0 from rfl]
  unfold inv ringAt shared
  have hlt : t.val < 25 := lt_of_lt_of_eq t.isLt N_0
  have hK : ¬t.val = 0 := fun h => hc0 ((isFirst_iff t).2 h)
  have hB : 25 ≤ t.val + 2 := by
    by_contra h
    exact hc1 ((prefetches_iff t).2 (by omega))
  rw [if_neg (show ¬t.val = 0 by omega), if_neg (show ¬t.val + 1 = 0 by omega), if_neg (show ¬t.val = 0 by omega), if_neg (show ¬t.val + 1 = 0 by omega), accAt_succ]
  rw [Ring.At3_here_tail _ _ _ _ t.val hlt, Ring.At3_next_tail _ _ _ _ t.val hB hlt, Ring.slotAt3_tail_role _ _ _ t.val]
  iintro ⟨⟨⟨Ha, Hw, HS9, HS10⟩, He, ⟨-, Hr0, Hr1, Hr2⟩⟩, ⟨%W, -, HW⟩, ⟨%d0, H0⟩, H1⟩
  iapply (runTail c t _ _ _ _ _ _ _ _ _ _ _ _ _ _ _ _ _ _ _ _ _ _ _ _ (iblk m c 0 t) (V m c main_arg0) (accAt m c t.val) (wts m c) hc0 hc1 hc2 W _)
  isplitl [H0]; · iexact H0
  isplitl [Ha]; · iexact Ha
  isplitl [Hw]; · iexact Hw
  isplitl [Hr0]; · iexact Hr0
  isplitl [HW]; · iexact HW
  iintro ⟨H0, Ha, Hw, Hr0, ⟨%W', HW⟩⟩
  isplitl [Ha Hw HS9 HS10 He Hr0 Hr1 Hr2]
  · isplitl [Ha Hw HS9 HS10]
    · isplitl [Ha]; · iexact Ha
      isplitl [Hw]; · iexact Hw
      isplitl [HS9]; · iexact HS9
      iexact HS10
    isplitl [He]; · iexact He
    iapply (Ring.with_homes (Idealize.SL.BI.Entails.refl _))
    isplitl [Hr1]; · iexact Hr1
    isplitl [Hr2]; · iexact Hr2
    iexact Hr0
  isplitl [HW]
  · iexists W'; isplitr; · ipureintro; exact fun _ _ => Or.inl trivial
    iexact HW
  isplitl [H0]; · iexact H0
  iexact H1

set_option maxHeartbeats 1600000 in
/-- The last point. -/
theorem sound_last (c : Dev nD) (t : Fin cfg0.N) (hc0 : ¬isFirst (grid0.coords t)) (hc1 : ¬prefetches (grid0.coords t)) (hc2 : isLast (grid0.coords t)) :
    sound m c t := by
  unfold sound preAt postAt bodyAt0
  simp only [before_in]
  rw [inv_castSucc, inv_succ, leaves_in, leaves_out_last m c t hc2]
  unfold Dat.owesAt Pipeline.owesWithin
  rw [show (datsT m 0 c).owed t.castSucc = 0 from rfl, show (datsT m 0 c).owed t.succ = 0 from rfl]
  unfold inv ringAt shared
  have hlt : t.val < 25 := lt_of_lt_of_eq t.isLt N_0
  have hK : ¬t.val = 0 := fun h => hc0 ((isFirst_iff t).2 h)
  have hB : 25 ≤ t.val + 2 := by
    by_contra h
    exact hc1 ((prefetches_iff t).2 (by omega))
  rw [if_neg (show ¬t.val = 0 by omega), if_neg (show ¬t.val + 1 = 0 by omega), if_neg (show ¬t.val = 0 by omega), if_neg (show ¬t.val + 1 = 0 by omega), accAt_succ]
  rw [Ring.At3_here_tail _ _ _ _ t.val hlt, Ring.At3_next_tail _ _ _ _ t.val hB hlt, Ring.slotAt3_tail_role _ _ _ t.val]
  have h24 : t.val = 24 := by
    have := (isLast_iff t).1 hc2
    have := lt_of_lt_of_eq t.isLt (show cfg0.N = 25 from N_0)
    omega
  have hres : result m c = k0_pay2 ((accAt m c t.val).step (wts m c) (xblk c t (V m c main_arg0)) (iblk m c 0 t)).s
      ((accAt m c t.val).step (wts m c) (xblk c t (V m c main_arg0)) (iblk m c 0 t)).q (lin2 m c) (bias2 m c) := by
    rw [← accAt_succ, h24]; rfl
  rw [hres]
  iintro ⟨⟨⟨Ha, Hw, HS9, HS10⟩, He, ⟨-, Hr0, Hr1, Hr2⟩⟩, ⟨%W, -, HW⟩, ⟨%d0, H0⟩, ⟨%d1, H1⟩⟩
  iapply (runLast c t _ _ _ _ _ _ _ _ _ _ _ _ _ _ _ _ _ _ _ _ _ _ _ _ (iblk m c 0 t) (V m c main_arg0) (accAt m c t.val) (wts m c) (lin2 m c) (bias2 m c) hc0 hc1 hc2 W _)
  isplitl [H0]; · iexact H0
  isplitl [H1]; · iexists _; iexact H1
  isplitl [Ha]; · iexact Ha
  isplitl [Hw]; · iexact Hw
  isplitl [HS9]; · iexact HS9
  isplitl [HS10]; · iexact HS10
  isplitl [Hr0]; · iexact Hr0
  isplitl [HW]; · iexact HW
  iintro ⟨H0, H1, Ha, Hw, HS9, HS10, Hr0, ⟨%W', HW⟩⟩
  isplitl [Ha Hw HS9 HS10 He Hr0 Hr1 Hr2]
  · isplitl [Ha Hw HS9 HS10]
    · isplitl [Ha]; · iexact Ha
      isplitl [Hw]; · iexact Hw
      isplitl [HS9]; · iexact HS9
      iexact HS10
    isplitl [He]; · iexact He
    iapply (Ring.with_homes (Idealize.SL.BI.Entails.refl _))
    isplitl [Hr1]; · iexact Hr1
    isplitl [Hr2]; · iexact Hr2
    iexact Hr0
  isplitl [HW]
  · iexists W'; isplitr; · ipureintro; exact fun _ _ => Or.inl trivial
    iexact HW
  isplitl [H0]; · iexact H0
  iexact H1

/-- The body's triple at every point. -/
theorem sound_body (c : Dev nD) (t : Fin cfg0.N) : sound m c t := by
  have h0 := isFirst_iff t
  have h1 := prefetches_iff t
  have h2 := isLast_iff t
  by_cases hc0 : isFirst (grid0.coords t)
  · exact sound_first m c t hc0 (fun h => by have := h1.1 h; have := h0.1 hc0; omega) (fun h => by have := h2.1 h; have := h0.1 hc0; omega)
  by_cases hc1 : prefetches (grid0.coords t)
  · exact sound_mid m c t hc0 hc1 (fun h => by have := h2.1 h; have := h1.1 hc1; omega)
  by_cases hc2 : isLast (grid0.coords t)
  · exact sound_last m c t hc0 hc1 hc2
  · exact sound_tail m c t hc0 hc1 hc2

theorem bodies (c : Dev nD) : BodyObligation (datsT (F := F) m 0 c) (defs₀ (F := F)) Variants.none () Set.univ := fun t => by
  have row : defs₀ (F := F) .tc cfg0.body (cfg0.bodyArgs t (cfg0.slots t)) = bodyAt0 t := by unfold defs₀; rw [Defs.onTc_tc]
  rw [bigSep_W0, bigSep_W0, row]
  exact triple_restated (sound_body m c t) rfl .rfl fun _ => .rfl

/-- The region's entry state is the invariant before the first point, -/
theorem inv_in (c : Dev nD) : Pipeline.ΦD bodySems spec0 movedArrays (V m) c ⊢ (datsT m 0 c).Φ 0 := by
  rw [handed_eq, show (datsT m 0 c).Φ 0 = inv m c 0 from rfl]
  unfold inv shared entry
  rw [if_pos rfl]
  iintro ⟨⟨HS0, HS1, HS2, HR, HS4, HS5, HS6, HS7, HS8, HS9, HS10⟩, Hg, ⟨Hq0, Hq1, Hq2, Hq3, Hq4, Hq5, Hq6, Hq7, Hq8, Hq9⟩, ⟨Hh0, Hh1, Hh2, Hh3, Hh4, Hh5, Hh6, Hh7⟩⟩
  isplitl [HS0 HS1 HS2 HS4 HS5 HS6 HS7 HS8 HS9 HS10]
  · isplitl [HS0]; · iexact HS0
    isplitl [HS1]; · iexact HS1
    isplitl [HS2]; · iexact HS2
    isplitl [HS4]; · iexact HS4
    isplitl [HS5]; · iexact HS5
    isplitl [HS6]; · iexact HS6
    isplitl [HS7]; · iexact HS7
    isplitl [HS8]; · iexact HS8
    isplitl [HS9]; · iexact HS9
    iexact HS10
  isplitl [Hg Hq3 Hq4 Hq5 Hq6 Hq7 Hq8 Hq9 Hh1 Hh2 Hh3 Hh4 Hh5 Hh6 Hh7]
  · isplitl [Hg]; · iexact Hg
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexact Hh7
  iapply (ring_in m c)
  isplitl [HR]; · iexact HR
  isplitl [Hq0 Hq1 Hq2]
  · isplitl [Hq0]; · iexact Hq0
    isplitl [Hq1]; · iexact Hq1
    iexact Hq2
  iexact Hh0

/-- and the invariant after the last hands it back. -/
theorem inv_out (c : Dev nD) : (datsT m 0 c).Φ (Fin.last cfg0.N) ⊢ Pipeline.ΦD bodySems spec0 movedArrays (V m) c := by
  rw [handed_eq, show (datsT m 0 c).Φ (Fin.last cfg0.N) = inv m c 25 from by dsimp only [datsT]; rw [Fin.val_last, show cfg0.N = 25 from N_0]]
  unfold inv shared entry
  rw [if_neg (by decide)]
  unfold accHeld weightsHeld
  iintro ⟨⟨⟨HS0, HS1, HS2⟩, ⟨HS4, HS5, HS6, HS7, HS8⟩, HS9, HS10⟩, ⟨Hg, Hq3, Hq4, Hq5, Hq6, Hq7, Hq8, Hq9, Hh1, Hh2, Hh3, Hh4, Hh5, Hh6, Hh7⟩, HR⟩
  ihave HR' := (ring_out m c) $$ HR
  icases HR' with ⟨HR, ⟨Hq0, Hq1, Hq2⟩, Hh0⟩
  isplitl [HR HS0 HS1 HS2 HS4 HS5 HS6 HS7 HS8 HS9 HS10]
  · isplitl [HS0]; · iexists _; iexact HS0
    isplitl [HS1]; · iexists _; iexact HS1
    isplitl [HS2]; · iexists _; iexact HS2
    isplitl [HR]; · iexact HR
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iexists _; iexact HS10
  isplitl [Hg]; · iexact Hg
  isplitl [Hq0 Hq1 Hq2 Hq3 Hq4 Hq5 Hq6 Hq7 Hq8 Hq9]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hq9
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  iexact Hh7

set_option backward.isDefEq.respectTransparency.types false in
/-- The run: every execution ends with the arrays at what the proof data come to, and every semaphore at zero. -/
theorem run_data : θ_run defs (onTc (τ := τ) (main (F := F))) (s₀ m ρ) (fun r => Pipeline.FramePost cfgs (datsT m) (0 : Fin 1) (V m) r ∧ r.2.sem = fun _ => 0) :=
  Pipeline.θ_run_frame_dma (Q' := _) cfgs (datsT m) (0 : Fin 1) launch0 bodySems defs₀ Variants.none bodySems_own movedArrays movedArrays_sub m ρ main
    (hbody := fun c => (bodies m c).loose) (hshare := fun c => (datsT m 0 c).share_full fun _ => rfl)
    (howed := fun _ _ => rfl) (V := V m) (hmain := host_main m Variants.none) (hA := datsT_A m) (hin := inv_in m) (hout := inv_out m)

end Cert.Kernel.Tracked

end
-- ==== Proof.Value.Output.lean ====
/- What the kernel's result array holds after the run, and the run's whole postcondition. -/
module

public import proofs.«01_k».proof.Proof.Run.Region
public import Idealize.ShloMosaic.Lib.Pipeline.ValueKit
public import Idealize.ShloMosaic.Lib.Claim

@[expose] public section

set_option maxRecDepth 16384

noncomputable section

namespace Cert.Kernel.Tracked

open Idealize.ShloMosaic Idealize.ShloMosaic.TcCoe Idealize.SL.Sem
open Cert.Kernel.Gen

variable {F : FTy → Type} [FloatOps F]
variable (m : (ℓ : Loc nD τ sig) → Buf (Elt F) ℓ) (ρ : Dev nD → PrngReg)

/-- The grid's last point. -/
def lastPoint : Fin cfg0.N := ⟨24, by decide⟩

/-- The last point writes the whole result array, and writes the result there. -/
theorem result_array (c : Dev nD) : (datsT m 0 c).arrAt 1 (cfgs 0).N = result m c := by
  refine (datsT m 0 c).arrAt_eq_of_after_last 1 lastPoint (by decide +kernel) _ fun j => ?_
  blk_simp
  rw [after_out]

/-- Every run of the kernel ends with the result array at the result, -/
theorem run_result : θ_run defs (onTc (τ := τ) (main (F := F))) ⟨m, fun _ => 0, ρ⟩ fun r => ∀ c : Dev nD,
    r.2.mem ((c.tc : Thread nD τ).loc main_v5) = result m c :=
  (θ_run defs _ _).mono (fun _ h c => ((h.1 c).1 1).trans (result_array m c)) (run_data m ρ)

/-- An array that no window stages, and that no host operation writes, ends as it was launched. -/
theorem kept {r : PUnit × MemSt nD τ sig (Elt F)} (h : Pipeline.FramePost cfgs (datsT m) (0 : Fin 1) (V m) r) (c : Dev nD) (b : Ref sig .tc)
    (hb : b ∈ Pipeline.restRefs sig spec0) (hV : V m c b = m ((c : Thread nD τ).loc b)) :
    r.2.mem ((c.tc : Thread nD τ).loc b) = m ((c.tc : Thread nD τ).loc b) :=
  ((h c).2 b hb).trans hV

/-- and with its arguments unchanged and every semaphore at zero. -/
theorem run_frame : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0 :=
  (θ_run defs _ _).mono (fun _ h => ⟨fun c =>
    ⟨kept m h.1 c main_arg0 (Pipeline.mem_restRefs_of main_arg0 (by decide) (by decide)) (V_main_arg0 m c), kept m h.1 c main_arg1 (Pipeline.mem_restRefs_of main_arg1 (by decide) (by decide)) (V_main_arg1 m c),
      kept m h.1 c main_arg2 (Pipeline.mem_restRefs_of main_arg2 (by decide) (by decide)) (V_main_arg2 m c), kept m h.1 c main_arg3 (Pipeline.mem_restRefs_of main_arg3 (by decide) (by decide)) (V_main_arg3 m c),
      kept m h.1 c main_arg4 (Pipeline.mem_restRefs_of main_arg4 (by decide) (by decide)) (V_main_arg4 m c), kept m h.1 c main_arg5 (Pipeline.mem_restRefs_of main_arg5 (by decide) (by decide)) (V_main_arg5 m c),
      kept m h.1 c main_arg6 (Pipeline.mem_restRefs_of main_arg6 (by decide) (by decide)) (V_main_arg6 m c), kept m h.1 c main_arg7 (Pipeline.mem_restRefs_of main_arg7 (by decide) (by decide)) (V_main_arg7 m c),
      kept m h.1 c main_arg8 (Pipeline.mem_restRefs_of main_arg8 (by decide) (by decide)) (V_main_arg8 m c), kept m h.1 c main_arg9 (Pipeline.mem_restRefs_of main_arg9 (by decide) (by decide)) (V_main_arg9 m c)⟩, h.2⟩) (run_data m ρ)

end Cert.Kernel.Tracked

end
-- ==== Proof.Value.Blocks.lean ====
/- The blocks the kernel reads, element by element: where in the argument arrays they lie. -/
module

public import proofs.«01_k».proof.Proof.Run.Region
public import Idealize.ShloMosaic.Lib.Pipeline.ValueKit
public import Idealize.ShloMosaic.Lib.Pointwise
public import Idealize.ShloMosaic.Lib.Claim

@[expose] public section

set_option maxRecDepth 16384

noncomputable section

namespace Cert.Kernel.Tracked

open Idealize.ShloMosaic Idealize.ShloMosaic.TcCoe
open Cert.Kernel.Gen

variable {F : FTy → Type} [FloatOps F]
variable (m : (ℓ : Loc nD τ sig) → Buf (Elt F) ℓ)

/-- The node that row `r` of tile `t` stands for. -/
def node (t : Fin cfg0.N) (r : Fin 2000) : Fin 50000 :=
  ⟨2000 * t.val + r.val, by have h : t.val < 25 := t.isLt; have := r.isLt; omega⟩

/-- What is written over the whole of a reshaped part of a buffer is read back from that part of the buffer. -/
theorem readAt_part {κ : Kind} {sp : Space} {s s' : Shape} {e : EltTy} (v : View sig κ sp s e) (R : LoadRect s) (r : Rect s)
    (h : s'.numel = r.shape.numel) (f : v.ty.Contents (Elt F)) (w : s'.Idx → Elt F e) (x : R.shape.Idx) (y : s'.Idx)
    (hx : R.idx x = r.emb (Shape.reshapeEquiv h y)) :
    v.readAt (Elt F) R (((v.slice r).reshape s' h).writes (Elt F) f [⟨Rect.whole s', w⟩]) x = w y := by
  rw [View.readAt_apply, hx]
  exact congrFun (View.read_writes_whole ((v.slice r).reshape s' h) f w) y

/-- The features of tile `t`: row `r` is that of its node. -/
theorem xblk_apply (c : Dev nD) (t : Fin cfg0.N) (X : BufOf (F := F) c hbm0) (r : Fin 2000) (j : Fin 512) :
    xblk c t X (ix3 0 r j) = X (ix2 (node t r) j) := by
  have hr : Shape.reshapeEquiv squeezes_S1x2000x512_S2000x512.numel_eq (ix2 r j : S2000x512.Idx) = (ix3 0 r j : S1x2000x512.Idx) := by
    pointwise
  have hoff : (Rect.unit (s := S3x2000x512) (k0_off7 (grid0.coords t)) S1x2000x512.size (k0_off7_inb (grid0.coords t))).toLoadRect.idx (ix3 0 r j)
      = (Rect.unit (s := S3x2000x512) ![(Ring.sl 3 t.val).val, 0, 0] S1x2000x512.size (slot_inb _)).emb
        (Shape.reshapeEquiv squeezes_S1x2000x512_S2000x512.numel_eq (ix2 r j : S2000x512.Idx)) := by
    rw [hr]
    have h := load_off t
    funext a
    refine Fin.ext ?_
    show k0_off7 (grid0.coords t) a + 1 * ((ix3 0 r j : S1x2000x512.Idx) a).val
      = (![(Ring.sl 3 t.val).val, 0, 0] : Fin 3 → ℕ) a + 1 * ((ix3 0 r j : S1x2000x512.Idx) a).val
    rw [h]
  have key := readAt_part (F := F) scr3.view
    (Rect.unit (s := S3x2000x512) (k0_off7 (grid0.coords t)) S1x2000x512.size (k0_off7_inb (grid0.coords t))).toLoadRect
    (Rect.unit (s := S3x2000x512) ![(Ring.sl 3 t.val).val, 0, 0] S1x2000x512.size (slot_inb _))
    squeezes_S1x2000x512_S2000x512.numel_eq (slotRef (Ring.sl 3 t.val)).view.junk
    (ReadAs.same.apply (View.read (Elt F) (blockRef (Ring.bk 25 t.val)).view X)) (ix3 0 r j) (ix2 r j) hoff
  unfold xblk
  refine Eq.trans key ?_
  have hb : (Ring.bk 25 t.val).val = t.val := Nat.mod_eq_of_lt t.isLt
  clear key hoff hr
  generalize Ring.bk 25 t.val = b at hb ⊢
  have hs : (Rect.unit (s := S50000x512) ![2000 * b.val, 0] S2000x512.size (block_inb b)).emb (ix2 r j : S2000x512.Idx)
      = (ix2 (node t r) j : S50000x512.Idx) := by
    funext a
    refine Fin.ext ?_
    match a with
    | ⟨0, _⟩ => show 2000 * b.val + 1 * r.val = 2000 * t.val + r.val; omega
    | ⟨1, _⟩ => show 0 + 1 * j.val = j.val; omega
  exact congrArg X hs

/-- Tile `t` is block `t` of the graph numbers. -/
theorem idx0_0 : ∀ t : Fin cfg0.N, win0_0.index t = ![t.val, 0, 0] := by decide +kernel

/-- The graph numbers of tile `t`. -/
theorem iblk_apply (c : Dev nD) (t : Fin cfg0.N) (r : Fin 2000) :
    iblk m c 0 t (ix3 0 r 0) = m ((c : Thread nD τ).loc main_arg1) (ix1 (node t r)) := by
  unfold iblk
  entry_read
  blk_simp
  pointwise
  blk_simp [idx0_0 t]
  refine congrArg _ (congrArg ix1 (Fin.ext ?_))
  show (t.val + 0) * 2000 + r.val = 2000 * t.val + r.val
  omega

/-- The second layer's bias, which the kernel takes as a row. -/
theorem bias2_apply (c : Dev nD) (k : Fin 512) : bias2 m c (ix2 0 k) = m ((c : Thread nD τ).loc main_arg9) (ix1 k) := by
  unfold bias2
  entry_read
  show (shapeCast S1x512 (m ((c : Thread nD τ).loc main_arg9) : Vec F S512 .f32) _) (ix2 0 k) = _
  pointwise

/-- The gate's first bias, taken as a row. -/
theorem wts_b1g_apply (c : Dev nD) (k : Fin 512) : (wts m c).b1g (ix2 0 k) = m ((c : Thread nD τ).loc main_arg3) (ix1 k) := by
  unfold wts weightsOf
  dsimp only
  entry_read
  show (shapeCast S1x512 (m ((c : Thread nD τ).loc main_arg3) : Vec F S512 .f32) _) (ix2 0 k) = _
  pointwise

/-- The gate's second layer, taken as a row. -/
theorem wts_w2g_apply (c : Dev nD) (k : Fin 512) : (wts m c).w2g (ix2 0 k) = m ((c : Thread nD τ).loc main_arg4) (ix2 k 0) := by
  unfold wts weightsOf
  dsimp only
  entry_read
  show (shapeCast S1x512 (m ((c : Thread nD τ).loc main_arg4) : Vec F S512x1 .f32) _) (ix2 0 k) = _
  pointwise

/-- The node network's first bias, taken as a row. -/
theorem wts_b1n_apply (c : Dev nD) (k : Fin 512) : (wts m c).b1n (ix2 0 k) = m ((c : Thread nD τ).loc main_arg7) (ix1 k) := by
  unfold wts weightsOf
  dsimp only
  entry_read
  show (shapeCast S1x512 (m ((c : Thread nD τ).loc main_arg7) : Vec F S512 .f32) _) (ix2 0 k) = _
  pointwise

/-- The matrices are read as they are. -/
theorem wts_W1g (c : Dev nD) : (wts m c).W1g = m ((c : Thread nD τ).loc main_arg2) := V_main_arg2 m c
theorem wts_W1n (c : Dev nD) : (wts m c).W1n = m ((c : Thread nD τ).loc main_arg6) := V_main_arg6 m c
theorem lin2_eq (c : Dev nD) : lin2 m c = m ((c : Thread nD τ).loc main_arg8) := V_main_arg8 m c

end Cert.Kernel.Tracked

end
-- ==== Proof.Value.Constants.lean ====
/- The numbers three float words stand for, and a few facts on real numbers among the extended ones. -/
module

public import Idealize.ShloMosaic.PureOps.Ideal
public import Mathlib.Tactic.Positivity

@[expose] public section

noncomputable section

namespace Cert.Pool

open Idealize.ShloMosaic

/-- The word of minus infinity. -/
theorem word_bot : Ideal.ofBits .f32 0xFF800000#32 = (⊥ : EReal) := by
  simp [Ideal.ofBits, Ideal.ieee]

/-- The word of plus infinity. -/
theorem word_top : Ideal.ofBits .f32 0x7F800000#32 = (⊤ : EReal) := by
  simp [Ideal.ofBits, Ideal.ieee]

/-- The small number added to the mass of a graph before the division. -/
def eps : ℝ := 15111573 * (2 ^ 77)⁻¹

theorem eps_pos : 0 < eps := by
  unfold eps
  positivity

/-- The word of that number. -/
theorem word_eps : Ideal.ofBits .f32 0x24E69595#32 = ((eps : ℝ) : EReal) := by
  unfold eps
  rw [EReal.coe_mul]
  simp [Ideal.ofBits, Ideal.ieee]

/-- The comparison "less than" answers 1 exactly where it holds. -/
theorem cmp_lt {x y : EReal} : Ideal.cmp .olt x y = 1#1 ↔ x < y := by
  unfold Ideal.cmp
  by_cases h : x < y
  · simp only [h, decide_true]
    decide
  · simp only [h, decide_false]
    decide

/-- A choice by that comparison. -/
theorem select_lt {α : Type} (x y : EReal) (a b : α) : Scalar.select (Ideal.cmp .olt x y) a b = if x < y then a else b := by
  by_cases h : x < y
  · rw [cmp_lt.2 h, if_pos h]
    rfl
  · have e : Ideal.cmp .olt x y = 0#1 := by
      unfold Ideal.cmp
      simp only [h, decide_false]
      decide
    rw [e, if_neg h]
    rfl

/-- A sum of real numbers is the same sum among the extended ones. -/
theorem coe_sum {ι : Type} (s : Finset ι) (f : ι → ℝ) : ((∑ i ∈ s, f i : ℝ) : EReal) = ∑ i ∈ s, ((f i : ℝ) : EReal) :=
  map_sum (⟨⟨Real.toEReal, rfl⟩, EReal.coe_add⟩ : ℝ →+ EReal) f s

/-- The larger of two real numbers is the same among the extended ones. -/
theorem coe_max (x y : ℝ) : ((max x y : ℝ) : EReal) = max (x : EReal) (y : EReal) := EReal.coe_strictMono.monotone.map_max

/-- A finite family of real numbers has a largest value, and its supremum is that value. -/
theorem sup_real {ι : Type} [Fintype ι] [Nonempty ι] (f : ι → ℝ) :
    ∃ i, (∀ j, f j ≤ f i) ∧ (Finset.univ.sup fun j => ((f j : ℝ) : EReal)) = ((f i : ℝ) : EReal) := by
  obtain ⟨i, _, hi⟩ := Finset.exists_max_image Finset.univ f Finset.univ_nonempty
  refine ⟨i, fun j => hi j (Finset.mem_univ j), le_antisymm (Finset.sup_le fun j hj => EReal.coe_le_coe_iff.2 (hi j hj)) ?_⟩
  exact Finset.le_sup (f := fun j => ((f j : ℝ) : EReal)) (Finset.mem_univ i)

/-- A factor goes into a sum of numbers that are not negative. -/
theorem sum_mul_of_nonneg {ι : Type} (s : Finset ι) {f : ι → EReal} (c : EReal) (hf : ∀ i ∈ s, 0 ≤ f i) : (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha, EReal.right_distrib_of_nonneg (hf a (Finset.mem_insert_self a s)) (Finset.sum_nonneg hs), ih hs]

/-- A real factor that is not negative goes into any sum. -/
theorem mul_sum_of_real {ι : Type} {s : Finset ι} {f : ι → EReal} {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- A quotient of real numbers, the divisor not zero. -/
theorem div_real (x : ℝ) {y : ℝ} (h : y ≠ 0) : Ideal.div (x : EReal) (y : EReal) = ((x / y : ℝ) : EReal) := by
  rw [Ideal.div_coe h, ← EReal.coe_mul, mul_one_div]

end Cert.Pool
-- ==== Proof.Value.Payload.lean ====
/-
  What each payload of the kernel computes, one entry at a time, over the extended reals: the gate of a tile's rows, their hidden features, the new running
  maximum, the weights of the rows for each graph, the two updated sums, and the quotient written at the last point.
-/
module

public import proofs.«01_k».proof.Proof.Run.Tile
public import proofs.«01_k».proof.Proof.Value.Constants
public import Idealize.ShloMosaic.Lib.Pointwise

@[expose] public section

set_option maxRecDepth 16384

noncomputable section

namespace Cert.Kernel.Tracked

open Idealize.ShloMosaic
open Cert.Kernel.Gen Cert.Pool

variable [Cert.Kernel.Facts]

/-- The gate of row `r` of a tile. -/
theorem pay7_apply (xb : Vec Ideal S1x2000x512 .f32) (W : Vec Ideal S512x512 .f32) (b w : Vec Ideal S1x512 .f32) (r : Fin 2000) (z : Fin 1) :
    k0_pay7 xb W b w (ix2 r z)
      = ∑ k : Fin 512, max (∑ j : Fin 512, xb (ix3 0 r j) * W (ix2 j k) + b (ix2 0 k)) 0 * w (ix2 0 k) := by
  pointwise [k0_pay7, k0_pay6]

/-- Hidden feature `k` of row `r` of a tile. -/
theorem pay8_apply (xb : Vec Ideal S1x2000x512 .f32) (W : Vec Ideal S512x512 .f32) (b : Vec Ideal S1x512 .f32) (r : Fin 2000) (k : Fin 512) :
    k0_pay8 (k0_pay6 xb) W b (ix2 r k) = max (∑ j : Fin 512, xb (ix3 0 r j) * W (ix2 j k) + b (ix2 0 k)) 0 := by
  pointwise [k0_pay8, k0_pay6]

/-- The new running maximum: the larger of the old one and the tile's. -/
theorem pay9_apply (g : Vec Ideal S2000x1 .f32) (m : Vec Ideal S1x1 .f32) :
    k0_pay9 g m (ix2 0 0) = max (m (ix2 0 0)) (Finset.univ.sup fun r : Fin 2000 => (g (ix2 r 0) : EReal)) := by
  have e : k0_pay9 g m (ix2 0 0)
      = max (m (ix2 0 0)) (Finset.fold max (Ideal.ofBits FTy.f32 4286578688#32) (fun x => g (ix2 x 0)) Finset.univ) := by
    pointwise [k0_pay9]
  rw [e, word_bot]
  rfl

/-- The stored maximum is the new running maximum. -/
theorem pay10_apply (g : Vec Ideal S2000x1 .f32) (m : Vec Ideal S1x1 .f32) : k0_pay10 g m (ix2 0 0) = k0_pay9 g m (ix2 0 0) := by
  pointwise [k0_pay10]

/-- The factor that carries the old sums over to the new maximum. -/
theorem pay11_apply (g : Vec Ideal S2000x1 .f32) (m : Vec Ideal S1x1 .f32) :
    k0_pay11 g m (ix2 0 0) = Ideal.exp (m (ix2 0 0) - k0_pay9 g m (ix2 0 0)) := by
  pointwise [k0_pay11]

/-- The weight of row `r` for graph `b`: its exponential where the row's segment word is `b`, nothing elsewhere. -/
theorem pay12_apply (g : Vec Ideal S2000x1 .f32) (bt : Vec Ideal S1x2000x1 .i32) (m : Vec Ideal S1x1 .f32) (r : Fin 2000) (b : Fin 256) :
    k0_pay12 g bt m (ix2 r b)
      = if bt (ix3 0 r 0) = BitVec.ofNat 32 b.val then Ideal.exp (g (ix2 r 0) - k0_pay9 g m (ix2 0 0)) else 0 := by
  pointwise [k0_pay12]
  by_cases h : bt (ix3 0 r 0) = BitVec.ofNat 32 b.val
  · simp [Scalar.select, IntOp.cmpi, h]
  · have h' : (bt (ix3 0 r 0) == BitVec.ofNat 32 b.val) = false := by simpa using h
    simp [Scalar.select, IntOp.cmpi, h, h']

/-- The sum of weights of graph `b` after the tile. -/
theorem pay13_apply (g : Vec Ideal S2000x1 .f32) (bt : Vec Ideal S1x2000x1 .i32) (m : Vec Ideal S1x1 .f32) (s : Vec Ideal S256x1 .f32) (b : Fin 256) :
    k0_pay13 g bt m s (ix2 b 0)
      = s (ix2 b 0) * Ideal.exp (m (ix2 0 0) - k0_pay9 g m (ix2 0 0)) + ∑ r : Fin 2000, k0_pay12 g bt m (ix2 r b) := by
  pointwise [k0_pay13, k0_pay11]

/-- The weighted sum of hidden feature `k` over graph `b` after the tile. -/
theorem pay1_apply (h : Vec Ideal S2000x512 .f32) (sc : Vec Ideal S1x1 .f32) (p : Vec Ideal S2000x256 .f32) (q : Vec Ideal S256x512 .f32) (b : Fin 256)
    (k : Fin 512) :
    k0_pay1 h sc p q (ix2 b k) = q (ix2 b k) * sc (ix2 0 0) + ∑ r : Fin 2000, p (ix2 r b) * h (ix2 r k) := by
  pointwise [k0_pay1]

/-- The entry written for graph `a` and output feature `o`. -/
theorem pay2_apply (s : Vec Ideal S256x1 .f32) (q : Vec Ideal S256x512 .f32) (W : Vec Ideal S512x512 .f32) (b : Vec Ideal S1x512 .f32) (a : Fin 256)
    (o : Fin 512) :
    k0_pay2 s q W b (ix2 a o)
      = Ideal.div (∑ k : Fin 512, q (ix2 a k) * W (ix2 k o) + s (ix2 a 0) * b (ix2 0 o)) (s (ix2 a 0) + Ideal.ofBits .f32 0x24E69595#32) := by
  pointwise [k0_pay2]

/-- The maximum starts at minus infinity. -/
theorem pay3_apply : k0_pay3 (F := Ideal) (ix2 0 0) = (⊥ : EReal) := by
  have e : k0_pay3 (F := Ideal) (ix2 0 0) = Ideal.ofBits .f32 0xFF800000#32 := by pointwise [k0_pay3]
  rw [e, word_bot]

/-- The sums of weights start at nothing. -/
theorem pay4_apply (b : Fin 256) : k0_pay4 (F := Ideal) (ix2 b 0) = (0 : EReal) := by
  pointwise [k0_pay4]

/-- The weighted sums start at nothing. -/
theorem pay5_apply (b : Fin 256) (k : Fin 512) : k0_pay5 (F := Ideal) (ix2 b k) = (0 : EReal) := by
  pointwise [k0_pay5]

end Cert.Kernel.Tracked
-- ==== Proof.Value.Pool.lean ====
/-
  Softmax pooling over graphs: what the streaming kernel computes, what the reference computes, and that the two are equal. The gates are real numbers; the node
  network's parameters, and with them its rows, are any extended reals.

  A node `i` has features `x i`, a word `seg i` that may name its graph, a gate score and an output row. The kernel sums `exp (gate i - M) * hidden i` over the nodes of a graph, `M` the
  largest gate score of all nodes, applies the second layer to the sum and divides at the end; the reference shifts each graph by a number `μ` of its own, divides
  each node's weight by its graph's sum, applies the second layer to each node and sums last.
-/
module

public import proofs.«01_k».proof.Proof.Value.Constants
public import Mathlib.Analysis.SpecialFunctions.Exp
public import Mathlib.Algebra.BigOperators.Field

@[expose] public section

noncomputable section

namespace Cert.Pool

/-- The number of nodes. -/
@[irreducible] def nodes : ℕ := 50000

theorem nodes_eq : nodes = 50000 := by
  unfold nodes
  rfl

/-- The problem's inputs: real numbers where the gates are computed from them; only the first 50000 nodes count. -/
structure Data where
  x : ℕ → Fin 512 → ℝ
  seg : ℕ → BitVec 32
  W1g : Fin 512 → Fin 512 → ℝ
  b1g : Fin 512 → ℝ
  w2g : Fin 512 → ℝ
  b2g : ℝ
  W1n : Fin 512 → Fin 512 → EReal
  b1n : Fin 512 → EReal
  W2n : Fin 512 → Fin 512 → EReal
  b2n : Fin 512 → EReal

/-- One unit of a hidden layer: the positive part of an affine form of the features. -/
def hidden (W : Fin 512 → Fin 512 → ℝ) (b : Fin 512 → ℝ) (x : Fin 512 → ℝ) (k : Fin 512) : ℝ :=
  max (∑ j, x j * W j k + b k) 0

namespace Data

variable (d : Data)

/-- Node `i` belongs to graph `b`. A node whose word names no graph belongs to none. -/
def In (i : ℕ) (b : Fin 256) : Prop := d.seg i = BitVec.ofNat 32 b.val

instance (i : ℕ) (b : Fin 256) : Decidable (d.In i b) := inferInstanceAs (Decidable (d.seg i = BitVec.ofNat 32 b.val))

/-- The gate score of node `i`, without the last bias. -/
def gate (i : ℕ) : ℝ := ∑ k, hidden d.W1g d.b1g (d.x i) k * d.w2g k

/-- Hidden feature `k` of node `i`. -/
def hid (i : ℕ) (k : Fin 512) : EReal := max (∑ j, ((d.x i j : ℝ) : EReal) * d.W1n j k + d.b1n k) 0

/-- Output feature `o` of node `i`. -/
def out (i : ℕ) (o : Fin 512) : EReal := ∑ k, d.hid i k * d.W2n k o + d.b2n o

/-- The weight of node `i` for graph `b`, the scores shifted by `M`. -/
def wt (M : ℝ) (b : Fin 256) (i : ℕ) : ℝ := if d.In i b then Real.exp (d.gate i - M) else 0

/-- The sum of the weights for graph `b` of the first `n` nodes. -/
def mass (n : ℕ) (M : ℝ) (b : Fin 256) : ℝ := ∑ i ∈ Finset.range n, d.wt M b i

/-- The weighted sum of hidden feature `k` for graph `b` over the first `n` nodes. -/
def pooled (n : ℕ) (M : ℝ) (b : Fin 256) (k : Fin 512) : EReal := ∑ i ∈ Finset.range n, ((d.wt M b i : ℝ) : EReal) * d.hid i k

/-- What the kernel writes for graph `b` and output feature `o`. -/
def kernelOut (ε M : ℝ) (b : Fin 256) (o : Fin 512) : EReal :=
  (∑ k, d.pooled nodes M b k * d.W2n k o + ((d.mass nodes M b : ℝ) : EReal) * d.b2n o) * ((1 / (d.mass nodes M b + ε) : ℝ) : EReal)

/-- The exponential of node `i`'s score shifted by `u`. -/
def expo (u : ℝ) (i : ℕ) : ℝ := Real.exp (d.gate i + d.b2g - u)

/-- The sum of the exponentials of graph `b`. -/
def total (u : ℝ) (b : Fin 256) : ℝ := ∑ i ∈ Finset.range nodes, if d.In i b then d.expo u i else 0

/-- The small number on the scale of a graph whose scores are shifted by `u`. -/
def small (ε M u : ℝ) : ℝ := ε * Real.exp (M + d.b2g - u)

/-- What the reference computes for graph `b`, its scores shifted by `u`, and output feature `o`. -/
def refOut (ε M u : ℝ) (b : Fin 256) (o : Fin 512) : EReal :=
  ∑ i ∈ Finset.range nodes, if d.In i b then ((d.expo u i / (d.total u b + d.small ε M u) : ℝ) : EReal) * d.out i o else 0

variable {d}

theorem hid_nonneg (i : ℕ) (k : Fin 512) : 0 ≤ d.hid i k := le_max_right _ _

theorem wt_nonneg (M : ℝ) (b : Fin 256) (i : ℕ) : 0 ≤ d.wt M b i := by
  unfold wt
  split
  · exact (Real.exp_pos _).le
  · exact le_rfl

theorem mass_nonneg (n : ℕ) (M : ℝ) (b : Fin 256) : 0 ≤ d.mass n M b :=
  Finset.sum_nonneg fun i _ => wt_nonneg M b i

theorem total_nonneg (u : ℝ) (b : Fin 256) : 0 ≤ d.total u b :=
  Finset.sum_nonneg fun i _ => by
    split
    · exact (Real.exp_pos _).le
    · exact le_rfl

theorem small_pos {ε : ℝ} (hε : 0 < ε) (M u : ℝ) : 0 < d.small ε M u :=
  mul_pos hε (Real.exp_pos _)

/-- A weighted hidden feature is not negative. -/
theorem wt_hid_nonneg (M : ℝ) (b : Fin 256) (i : ℕ) (k : Fin 512) : 0 ≤ ((d.wt M b i : ℝ) : EReal) * d.hid i k :=
  mul_nonneg (EReal.coe_nonneg.2 (wt_nonneg M b i)) (hid_nonneg i k)

/-- A change of the shift multiplies a weight by one factor. -/
theorem wt_shift (M M' : ℝ) (b : Fin 256) (i : ℕ) : d.wt M b i * Real.exp (M - M') = d.wt M' b i := by
  unfold wt
  split
  · rw [← Real.exp_add]
    congr 1
    ring
  · exact zero_mul _

/-- A change of the shift multiplies a weighted sum by the same factor. -/
theorem pooled_shift (n : ℕ) (M M' : ℝ) (b : Fin 256) (k : Fin 512) :
    d.pooled n M b k * ((Real.exp (M - M') : ℝ) : EReal) = d.pooled n M' b k := by
  unfold pooled
  rw [sum_mul_of_nonneg _ _ fun i _ => wt_hid_nonneg M b i k]
  refine Finset.sum_congr rfl fun i _ => ?_
  rw [mul_right_comm, ← EReal.coe_mul, wt_shift]

/-- A graph's sum of exponentials is its mass on another scale. -/
theorem total_eq (M u : ℝ) (b : Fin 256) : d.total u b = d.mass nodes M b * Real.exp (M + d.b2g - u) := by
  unfold total mass
  rw [Finset.sum_mul]
  refine Finset.sum_congr rfl fun i _ => ?_
  unfold wt expo
  split
  · rw [← Real.exp_add]
    congr 1
    ring
  · exact (zero_mul _).symm

/-- A node's share of its graph does not depend on the shifts. -/
theorem share_eq {ε : ℝ} (M u : ℝ) (b : Fin 256) (i : ℕ) :
    d.expo u i / (d.total u b + d.small ε M u) = Real.exp (d.gate i - M) * (1 / (d.mass nodes M b + ε)) := by
  have hE := Real.exp_pos (M + d.b2g - u)
  have he : d.expo u i = Real.exp (d.gate i - M) * Real.exp (M + d.b2g - u) := by
    unfold expo
    rw [← Real.exp_add]
    congr 1
    ring
  rw [he, total_eq M]
  unfold small
  rw [← add_mul, mul_div_mul_right _ _ hE.ne', mul_one_div]

/-- An affine form of a sum with weights that are not negative is the weighted sum of the affine forms, where what is summed is not negative. -/
theorem sum_affine (n : ℕ) (w : ℕ → ℝ) (hw : ∀ i, 0 ≤ w i) (h : ℕ → Fin 512 → EReal) (hh : ∀ i k, 0 ≤ h i k) (W : Fin 512 → EReal) (c : EReal) :
    ∑ i ∈ Finset.range n, ((w i : ℝ) : EReal) * (∑ k, h i k * W k + c)
      = ∑ k, (∑ i ∈ Finset.range n, ((w i : ℝ) : EReal) * h i k) * W k + ((∑ i ∈ Finset.range n, w i : ℝ) : EReal) * c := by
  have hp : ∀ k, (∑ i ∈ Finset.range n, ((w i : ℝ) : EReal) * h i k) * W k = ∑ i ∈ Finset.range n, ((w i : ℝ) : EReal) * (h i k * W k) := fun k => by
    rw [sum_mul_of_nonneg _ _ fun i _ => mul_nonneg (EReal.coe_nonneg.2 (hw i)) (hh i k)]
    exact Finset.sum_congr rfl fun i _ => mul_assoc _ _ _
  rw [Finset.sum_congr rfl fun k _ => hp k, Finset.sum_comm, coe_sum, sum_mul_of_nonneg _ _ fun i _ => EReal.coe_nonneg.2 (hw i),
    ← Finset.sum_add_distrib]
  refine Finset.sum_congr rfl fun i _ => ?_
  rw [EReal.left_distrib_of_nonneg_of_ne_top (EReal.coe_nonneg.2 (hw i)) (EReal.coe_ne_top _), mul_sum_of_real (hw i)]

/-- The reference and the kernel compute the same numbers, whatever the shift of the graph's scores. -/
theorem refOut_eq {ε : ℝ} (hε : 0 < ε) (M u : ℝ) (b : Fin 256) (o : Fin 512) : d.refOut ε M u b o = d.kernelOut ε M b o := by
  have hc : 0 ≤ 1 / (d.mass nodes M b + ε) := one_div_nonneg.2 (add_nonneg (mass_nonneg nodes M b) hε.le)
  have hl : d.refOut ε M u b o
      = ∑ i ∈ Finset.range nodes, ((1 / (d.mass nodes M b + ε) : ℝ) : EReal) * (((d.wt M b i : ℝ) : EReal) * d.out i o) := by
    unfold refOut
    refine Finset.sum_congr rfl fun i _ => ?_
    rw [share_eq M]
    unfold wt
    split
    · rw [EReal.coe_mul, mul_comm (Real.exp _ : EReal), mul_assoc]
    · rw [EReal.coe_zero, zero_mul, mul_zero]
  rw [hl, ← mul_sum_of_real hc, mul_comm]
  exact congrArg (· * _) (sum_affine nodes (d.wt M b) (wt_nonneg M b) d.hid hid_nonneg (fun k => d.W2n k o) (d.b2n o))

end Data

end Cert.Pool
-- ==== Proof.Value.Precondition.lean ====
/- The precondition: the side conditions of its operations, and what it says of each argument at an index. -/
module

public import proofs.«01_k».proof.Pre_finite_gates
public import proofs.«01_k».proof.Proof.Value.Constants
public import Idealize.ShloMosaic.Lib.Pointwise
public import Idealize.ShloMosaic.Lib.ReduceAll
public import Idealize.ShloMosaic.Lib.Affine
public import Idealize.ShloMosaic.Lib.Decide

@[expose] public section

set_option maxRecDepth 16384

noncomputable section

namespace Cert.Pool

open Idealize.ShloMosaic
open Cert.Pre_finite_gates

/-- The side conditions of the precondition's operations. -/
theorem pre_facts : Cert.Pre_finite_gates.Facts where
  bcast_S_S50000x512 := by decide
  reducesTo_S50000x512_S_d0_1 := by decide
  h_S_ := by decide
  bcast_S_S512x512 := by decide
  reducesTo_S512x512_S_d0_1 := by decide
  bcast_S_S512 := by decide
  reducesTo_S512_S_d0 := by decide
  bcast_S_S512x1 := by decide
  reducesTo_S512x1_S_d0_1 := by decide
  bcast_S_S1 := by decide
  reducesTo_S1_S_d0 := by decide

/-- A value whose magnitude is below plus infinity is a real number. -/
theorem real_of_abs_lt {v : EReal} (h : max v (-v) < ⊤) : v = ((v.toReal : ℝ) : EReal) := by
  refine (EReal.coe_toReal (fun e => ?_) fun e => ?_).symm
  · rw [e] at h
    simp at h
  · rw [e] at h
    simp at h

/-- Where the test "every magnitude is below plus infinity" says yes, every entry is a real number. -/
theorem finite_all {s : Shape} {axes : List (Fin s.rank)} (a : FVec Ideal s .f32) (hb : S_.BroadcastsInDim s (![] : Fin 0 → Fin s.rank))
    (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : a i = (((a i : EReal).toReal : ℝ) : EReal) := by
  have e1 : Ideal.cmp .olt (max (a i : EReal) (-(a i : EReal))) (Ideal.ofBits .f32 0x7F800000#32) = 1#1 := Host.reduce_andi_all _ _ h hu j e i
  refine real_of_abs_lt ?_
  rw [word_top] at e1
  exact cmp_lt.1 e1

section

variable [Cert.Pre_finite_gates.Facts]

/-- What the precondition says: every float that the gates are computed from is a real number. -/
theorem pre_says (a0 : FVec Ideal S50000x512 .f32) (a1 : IVec S50000 32) (a2 : FVec Ideal S512x512 .f32) (a3 : FVec Ideal S512 .f32)
    (a4 : FVec Ideal S512x1 .f32) (a5 : FVec Ideal S1 .f32) (a6 : FVec Ideal S512x512 .f32) (a7 : FVec Ideal S512 .f32) (a8 : FVec Ideal S512x512 .f32)
    (a9 : FVec Ideal S512 .f32) (j : S_.Idx) (h : fn (F := Ideal) a0 a1 a2 a3 a4 a5 a6 a7 a8 a9 j = 1#1) :
    (∀ i, a0 i = (((a0 i : EReal).toReal : ℝ) : EReal)) ∧ (∀ i, a2 i = (((a2 i : EReal).toReal : ℝ) : EReal))
      ∧ (∀ i, a3 i = (((a3 i : EReal).toReal : ℝ) : EReal)) ∧ (∀ i, a4 i = (((a4 i : EReal).toReal : ℝ) : EReal))
      ∧ (∀ i, a5 i = (((a5 i : EReal).toReal : ℝ) : EReal)) := by
  obtain ⟨h22, h19⟩ := IntOp.andi_eq_one.1 h
  obtain ⟨h21, h15⟩ := IntOp.andi_eq_one.1 h22
  obtain ⟨h20, h11⟩ := IntOp.andi_eq_one.1 h21
  obtain ⟨h3, h7⟩ := IntOp.andi_eq_one.1 h20
  exact ⟨finite_all a0 _ _ _ j h3, finite_all a2 _ _ _ j h7, finite_all a3 _ _ _ j h11, finite_all a4 _ _ _ j h15, finite_all a5 _ _ _ j h19⟩

end

end Cert.Pool
-- ==== Proof.Value.Inputs.lean ====
/- The argument arrays that hold a problem's inputs, and that arrays the precondition admits hold some. -/
module

public import proofs.«01_k».proof.Proof.Value.Pool
public import proofs.«01_k».proof.Proof.Value.Precondition

@[expose] public section

set_option maxRecDepth 16384

noncomputable section

namespace Cert.Pool

open Idealize.ShloMosaic
open Cert.Pre_finite_gates

/-- The ten argument arrays hold the inputs `d`. -/
structure Holds (d : Data) (a0 : FVec Ideal S50000x512 .f32) (a1 : IVec S50000 32) (a2 : FVec Ideal S512x512 .f32) (a3 : FVec Ideal S512 .f32)
    (a4 : FVec Ideal S512x1 .f32) (a5 : FVec Ideal S1 .f32) (a6 : FVec Ideal S512x512 .f32) (a7 : FVec Ideal S512 .f32) (a8 : FVec Ideal S512x512 .f32)
    (a9 : FVec Ideal S512 .f32) : Prop where
  x : ∀ (i : Fin 50000) (j : Fin 512), a0 (ix2 i j) = ((d.x i j : ℝ) : EReal)
  seg : ∀ i : Fin 50000, a1 (ix1 i) = d.seg i
  W1g : ∀ j k : Fin 512, a2 (ix2 j k) = ((d.W1g j k : ℝ) : EReal)
  b1g : ∀ k : Fin 512, a3 (ix1 k) = ((d.b1g k : ℝ) : EReal)
  w2g : ∀ k : Fin 512, a4 (ix2 k 0) = ((d.w2g k : ℝ) : EReal)
  b2g : a5 (ix1 0) = ((d.b2g : ℝ) : EReal)
  W1n : ∀ j k : Fin 512, a6 (ix2 j k) = (d.W1n j k : EReal)
  b1n : ∀ k : Fin 512, a7 (ix1 k) = (d.b1n k : EReal)
  W2n : ∀ k o : Fin 512, a8 (ix2 k o) = (d.W2n k o : EReal)
  b2n : ∀ o : Fin 512, a9 (ix1 o) = (d.b2n o : EReal)

/-- Arrays that the precondition admits hold some inputs. -/
theorem exists_holds [Cert.Pre_finite_gates.Facts] (a0 : FVec Ideal S50000x512 .f32) (a1 : IVec S50000 32) (a2 : FVec Ideal S512x512 .f32)
    (a3 : FVec Ideal S512 .f32) (a4 : FVec Ideal S512x1 .f32) (a5 : FVec Ideal S1 .f32) (a6 : FVec Ideal S512x512 .f32) (a7 : FVec Ideal S512 .f32)
    (a8 : FVec Ideal S512x512 .f32) (a9 : FVec Ideal S512 .f32) (h : fn (F := Ideal) a0 a1 a2 a3 a4 a5 a6 a7 a8 a9 = fun _ => 1#1) :
    ∃ d, Holds d a0 a1 a2 a3 a4 a5 a6 a7 a8 a9 := by
  obtain ⟨h0, h2, h3, h4, h5⟩ := pre_says a0 a1 a2 a3 a4 a5 a6 a7 a8 a9 ix0 (congrFun h ix0)
  refine ⟨{
    x := fun i j => if hi : i < 50000 then (a0 (ix2 ⟨i, hi⟩ j) : EReal).toReal else 0
    seg := fun i => if hi : i < 50000 then a1 (ix1 ⟨i, hi⟩) else 0
    W1g := fun j k => (a2 (ix2 j k) : EReal).toReal
    b1g := fun k => (a3 (ix1 k) : EReal).toReal
    w2g := fun k => (a4 (ix2 k 0) : EReal).toReal
    b2g := (a5 (ix1 0) : EReal).toReal
    W1n := fun j k => a6 (ix2 j k)
    b1n := fun k => a7 (ix1 k)
    W2n := fun k o => a8 (ix2 k o)
    b2n := fun o => a9 (ix1 o) }, ?_⟩
  constructor
  · intro i j
    dsimp only
    rw [dif_pos i.isLt]
    exact h0 _
  · intro i
    dsimp only
    rw [dif_pos i.isLt]
  · exact fun j k => h2 _
  · exact fun k => h3 _
  · exact fun k => h4 _
  · exact h5 _
  · exact fun j k => rfl
  · exact fun k => rfl
  · exact fun k o => rfl
  · exact fun o => rfl

/-- A hidden unit of real features and weights. -/
theorem hidden_real (W : Fin 512 → Fin 512 → ℝ) (b : Fin 512 → ℝ) (x : Fin 512 → ℝ) (k : Fin 512) :
    max (∑ j, ((x j : ℝ) : EReal) * ((W j k : ℝ) : EReal) + ((b k : ℝ) : EReal)) 0 = ((hidden W b x k : ℝ) : EReal) := by
  unfold hidden
  rw [coe_max, EReal.coe_add, coe_sum]
  simp only [EReal.coe_mul, EReal.coe_zero]

end Cert.Pool
-- ==== Proof.Value.Fold.lean ====
/- The three accumulators of the kernel after some tiles, and the entry that the last point writes. -/
module

public import proofs.«01_k».proof.Proof.Value.Payload
public import proofs.«01_k».proof.Proof.Value.Inputs

@[expose] public section

set_option maxRecDepth 16384

noncomputable section

namespace Cert.Kernel.Tracked

open Idealize.ShloMosaic
open Cert.Kernel.Gen Cert.Pool

/-- A tile holds the features and graph numbers of the 2000 nodes from `n` on. -/
structure TileHolds (d : Data) (n : ℕ) (xb : Vec Ideal S1x2000x512 .f32) (bt : Vec Ideal S1x2000x1 .i32) : Prop where
  x : ∀ (r : Fin 2000) (j : Fin 512), xb (ix3 0 r j) = ((d.x (n + r.val) j : ℝ) : EReal)
  seg : ∀ r : Fin 2000, bt (ix3 0 r 0) = d.seg (n + r.val)

/-- The weights in VMEM are the first layers' and the gate's. -/
structure WeightsHold (d : Data) (w : Weights Ideal) : Prop where
  W1g : ∀ j k : Fin 512, w.W1g (ix2 j k) = ((d.W1g j k : ℝ) : EReal)
  b1g : ∀ k : Fin 512, w.b1g (ix2 0 k) = ((d.b1g k : ℝ) : EReal)
  w2g : ∀ k : Fin 512, w.w2g (ix2 0 k) = ((d.w2g k : ℝ) : EReal)
  W1n : ∀ j k : Fin 512, w.W1n (ix2 j k) = (d.W1n j k : EReal)
  b1n : ∀ k : Fin 512, w.b1n (ix2 0 k) = (d.b1n k : EReal)

/-- The accumulators after at least one tile: `M` is the largest gate score so far, the sums are those of the first `n` nodes on the scale of `M`. -/
structure Holding (d : Data) (n : ℕ) (M : ℝ) (a : Acc Ideal) : Prop where
  m : a.m (ix2 0 0) = ((M : ℝ) : EReal)
  greatest : IsGreatest (d.gate '' Set.Iio n) M
  s : ∀ b : Fin 256, a.s (ix2 b 0) = ((d.mass n M b : ℝ) : EReal)
  q : ∀ (b : Fin 256) (k : Fin 512), a.q (ix2 b k) = (d.pooled n M b k : EReal)

/-- What the next tile needs of the accumulators: carried over to any scale `M'`, the sums are those of the first `n` nodes. -/
structure Ready (d : Data) (n : ℕ) (a : Acc Ideal) : Prop where
  m : (n = 0 ∧ a.m (ix2 0 0) = (⊥ : EReal)) ∨ ∃ M : ℝ, a.m (ix2 0 0) = ((M : ℝ) : EReal) ∧ IsGreatest (d.gate '' Set.Iio n) M
  s : ∀ (M' : ℝ) (b : Fin 256), (a.s (ix2 b 0) : EReal) * Ideal.exp ((a.m (ix2 0 0) : EReal) - (M' : EReal)) = ((d.mass n M' b : ℝ) : EReal)
  q : ∀ (M' : ℝ) (b : Fin 256) (k : Fin 512),
    (a.q (ix2 b k) : EReal) * Ideal.exp ((a.m (ix2 0 0) : EReal) - (M' : EReal)) = d.pooled n M' b k

variable {d : Data}

/-- The starting accumulators are ready for the first tile. -/
theorem ready_init [Cert.Kernel.Facts] : Ready d 0 (Acc.init (F := Ideal)) where
  m := Or.inl ⟨rfl, pay3_apply⟩
  s M' b := by
    rw [show (Acc.init (F := Ideal)).s (ix2 b 0) = (0 : EReal) from pay4_apply b, zero_mul]
    simp [Data.mass]
  q M' b k := by
    rw [show (Acc.init (F := Ideal)).q (ix2 b k) = (0 : EReal) from pay5_apply b k, zero_mul]
    simp [Data.pooled]

/-- Accumulators that hold the sums so far are ready for the next tile. -/
theorem Holding.ready {n : ℕ} {M : ℝ} {a : Acc Ideal} (h : Holding d n M a) : Ready d n a where
  m := Or.inr ⟨M, h.m, h.greatest⟩
  s M' b := by
    rw [h.s, h.m, ← EReal.coe_sub, Ideal.exp_coe, ← EReal.coe_mul]
    congr 1
    unfold Data.mass
    rw [Finset.sum_mul]
    exact Finset.sum_congr rfl fun i _ => Data.wt_shift M M' b i
  q M' b k := by
    rw [h.q, h.m, ← EReal.coe_sub, Ideal.exp_coe, Data.pooled_shift]

/-- The maximum after a tile: a real number, the largest score so far. -/
theorem max_step {n T : ℕ} (hT : 0 < T) {m : EReal} (hm : (n = 0 ∧ m = ⊥) ∨ ∃ M : ℝ, m = ((M : ℝ) : EReal) ∧ IsGreatest (d.gate '' Set.Iio n) M) :
    ∃ M' : ℝ, max m (Finset.univ.sup fun r : Fin T => ((d.gate (n + r.val) : ℝ) : EReal)) = ((M' : ℝ) : EReal)
      ∧ IsGreatest (d.gate '' Set.Iio (n + T)) M' := by
  have : Nonempty (Fin T) := ⟨⟨0, hT⟩⟩
  obtain ⟨r, hr, e⟩ := sup_real fun r : Fin T => d.gate (n + r.val)
  rw [e]
  rcases hm with ⟨rfl, rfl⟩ | ⟨M, rfl, ⟨i, hi, hiM⟩, hM⟩
  · refine ⟨_, max_eq_right bot_le, ⟨_, ?_, rfl⟩, ?_⟩
    · have := r.isLt
      exact Set.mem_Iio.2 (by omega)
    · rintro _ ⟨j, hj, rfl⟩
      have hj' : j < 0 + T := hj
      have h1 := hr ⟨j, by omega⟩
      simpa using h1
  · refine ⟨max M (d.gate (n + r.val)), (coe_max _ _).symm, ?_, ?_⟩
    · rcases le_total M (d.gate (n + r.val)) with h | h
      · rw [max_eq_right h]
        refine ⟨_, ?_, rfl⟩
        have := r.isLt
        exact Set.mem_Iio.2 (by omega)
      · rw [max_eq_left h]
        have hi' : i < n := hi
        exact ⟨i, Set.mem_Iio.2 (by omega), hiM⟩
    · rintro _ ⟨j, hj, rfl⟩
      have hj' : j < n + T := hj
      by_cases hn : j < n
      · exact le_max_of_le_left (hM ⟨j, hn, rfl⟩)
      · have h1 := hr ⟨j - n, by omega⟩
        have e1 : n + (j - n) = j := by omega
        simp only [e1] at h1
        exact le_max_of_le_right h1

/-- A sum over the first `n` nodes and one over the next `T` are one over the first `n + T`. -/
theorem sum_step (f : ℕ → EReal) (n T : ℕ) :
    ∑ i ∈ Finset.range n, f i + ∑ r : Fin T, f (n + r.val) = ∑ i ∈ Finset.range (n + T), f i := by
  rw [Finset.sum_range_add, Finset.sum_range fun r => f (n + r)]

section

variable [Cert.Kernel.Facts]
variable {n : ℕ} {w : Weights Ideal} {xb : Vec Ideal S1x2000x512 .f32} {bt : Vec Ideal S1x2000x1 .i32} {a : Acc Ideal}

/-- A row's gate score. -/
theorem gate_row (hw : WeightsHold d w) (ht : TileHolds d n xb bt) (r : Fin 2000) :
    k0_pay7 xb w.W1g w.b1g w.w2g (ix2 r 0) = ((d.gate (n + r.val) : ℝ) : EReal) := by
  rw [pay7_apply]
  unfold Data.gate
  rw [coe_sum]
  refine Finset.sum_congr rfl fun k _ => ?_
  rw [EReal.coe_mul, ← hidden_real, hw.b1g, hw.w2g]
  simp only [ht.x, hw.W1g]

/-- A row's hidden feature. -/
theorem hid_row (hw : WeightsHold d w) (ht : TileHolds d n xb bt) (r : Fin 2000) (k : Fin 512) :
    k0_pay8 (k0_pay6 xb) w.W1n w.b1n (ix2 r k) = d.hid (n + r.val) k := by
  rw [pay8_apply]
  unfold Data.hid
  rw [hw.b1n]
  simp only [ht.x, hw.W1n]

/-- A row's weight for a graph, at the new maximum `M'`. -/
theorem wt_row (hw : WeightsHold d w) (ht : TileHolds d n xb bt) {m : Vec Ideal S1x1 .f32} {M' : ℝ}
    (hM : k0_pay9 (k0_pay7 xb w.W1g w.b1g w.w2g) m (ix2 0 0) = ((M' : ℝ) : EReal)) (r : Fin 2000) (b : Fin 256) :
    k0_pay12 (k0_pay7 xb w.W1g w.b1g w.w2g) bt m (ix2 r b) = ((d.wt M' b (n + r.val) : ℝ) : EReal) := by
  rw [pay12_apply, hM, gate_row hw ht, ht.seg, ← EReal.coe_sub, Ideal.exp_coe]
  unfold Data.wt
  by_cases h : d.In (n + r.val) b
  · rw [if_pos h]
    exact if_pos h
  · rw [if_neg h, EReal.coe_zero]
    exact if_neg h

/-- One tile takes ready accumulators to the sums over 2000 nodes more. -/
theorem step_holds (hw : WeightsHold d w) (ht : TileHolds d n xb bt) (ha : Ready d n a) : ∃ M', Holding d (n + 2000) M' (Acc.step w xb bt a) := by
  obtain ⟨M', e, hg⟩ := max_step (d := d) (n := n) (T := 2000) (by decide) ha.m
  have hM : k0_pay9 (k0_pay7 xb w.W1g w.b1g w.w2g) a.m (ix2 0 0) = ((M' : ℝ) : EReal) := by
    rw [pay9_apply, ← e]
    simp only [gate_row hw ht]
  refine ⟨M', ?_, hg, fun b => ?_, fun b k => ?_⟩
  · exact (pay10_apply _ _).trans hM
  · refine (pay13_apply _ _ _ _ b).trans ?_
    rw [hM, ha.s]
    simp only [wt_row hw ht hM]
    unfold Data.mass
    rw [coe_sum, coe_sum]
    exact sum_step (fun i => ((d.wt M' b i : ℝ) : EReal)) n 2000
  · refine (pay1_apply _ _ _ _ b k).trans ?_
    rw [pay11_apply, hM, ha.q]
    simp only [wt_row hw ht hM, hid_row hw ht]
    exact sum_step (fun i => ((d.wt M' b i : ℝ) : EReal) * d.hid i k) n 2000

/-- The entry written at the last point. -/
theorem output_entry {M : ℝ} (ha : Holding d nodes M a) (W : Vec Ideal S512x512 .f32) (bias : Vec Ideal S1x512 .f32)
    (hW : ∀ k o : Fin 512, W (ix2 k o) = (d.W2n k o : EReal)) (hb : ∀ o : Fin 512, bias (ix2 0 o) = (d.b2n o : EReal)) (b : Fin 256)
    (o : Fin 512) : k0_pay2 a.s a.q W bias (ix2 b o) = d.kernelOut eps M b o := by
  have h0 : d.mass nodes M b + eps ≠ 0 := (add_pos_of_nonneg_of_pos (Data.mass_nonneg nodes M b) eps_pos).ne'
  rw [pay2_apply, word_eps, ha.s, hb]
  simp only [ha.q, hW]
  rw [← EReal.coe_add, Ideal.div_coe h0]
  rfl

end

end Cert.Kernel.Tracked
-- ==== Proof.Value.KernelValue.lean ====
/- The kernel's result array, entry by entry, where the arguments hold a problem's inputs. -/
module

public import proofs.«01_k».proof.Proof.Value.Blocks
public import proofs.«01_k».proof.Proof.Value.Fold

@[expose] public section

set_option maxRecDepth 16384

noncomputable section

namespace Cert.Kernel.Tracked

open Idealize.ShloMosaic Idealize.ShloMosaic.TcCoe
open Cert.Kernel.Gen Cert.Pool

variable (m : (ℓ : Loc nD τ sig) → Buf (Elt Ideal) ℓ) (c : Dev nD)

/-- The kernel's arguments on core `c` hold the inputs `d`. -/
def ArgsHold (d : Data) : Prop :=
  Holds d (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

variable {m c} {d : Data}

/-- The kernel's weights in VMEM hold the layers. -/
theorem wts_hold (h : ArgsHold m c d) : WeightsHold d (wts m c) where
  W1g j k := by
    rw [wts_W1g]
    exact h.W1g j k
  b1g k := (wts_b1g_apply m c k).trans (h.b1g k)
  w2g k := (wts_w2g_apply m c k).trans (h.w2g k)
  W1n j k := by
    rw [wts_W1n]
    exact h.W1n j k
  b1n k := (wts_b1n_apply m c k).trans (h.b1n k)

/-- Tile `t` holds the nodes from `2000 * t` on. -/
theorem tile_holds (h : ArgsHold m c d) (t : Fin cfg0.N) : TileHolds d (2000 * t.val) (xblk c t (V m c main_arg0)) (iblk m c 0 t) where
  x r j := by
    rw [xblk_apply, V_main_arg0]
    exact h.x (node t r) j
  seg r := (iblk_apply m c t r).trans (h.seg (node t r))

/-- The accumulators after `k` tiles are ready for another, and hold the sums over `2000 * k` nodes if there was a tile. -/
theorem acc_holds (h : ArgsHold m c d) : ∀ k, k ≤ 25 → Ready d (2000 * k) (accAt m c k) ∧ (0 < k → ∃ M, Holding d (2000 * k) M (accAt m c k))
  | 0, _ => ⟨ready_init, fun h0 => absurd h0 (lt_irrefl 0)⟩
  | k + 1, hk => by
    have hr := (acc_holds h k (by omega)).1
    have ht : k < cfg0.N := hk
    obtain ⟨M, hM⟩ := step_holds (wts_hold h) (tile_holds h ⟨k, ht⟩) hr
    rw [← accAt_succ m c ⟨k, ht⟩, show 2000 * (⟨k, ht⟩ : Fin cfg0.N).val + 2000 = 2000 * (k + 1) from by ring] at hM
    exact ⟨hM.ready, fun _ => ⟨M, hM⟩⟩

/-- The kernel's result: for one number `M`, the largest gate score of all nodes, every entry is `kernelOut` at `M`. -/
theorem result_entry (h : ArgsHold m c d) :
    ∃ M, IsGreatest (d.gate '' Set.Iio nodes) M ∧ ∀ (b : Fin 256) (o : Fin 512), result m c (ix2 b o) = (d.kernelOut eps M b o : EReal) := by
  obtain ⟨M, hM⟩ := (acc_holds h 25 le_rfl).2 (by decide)
  rw [show 2000 * 25 = nodes from nodes_eq.symm] at hM
  refine ⟨M, hM.greatest, fun b o => output_entry hM _ _ (fun k o => ?_) (fun o => ?_) b o⟩
  · rw [lin2_eq]
    exact h.W2n k o
  · exact (bias2_apply m c o).trans (h.b2n o)

end Cert.Kernel.Tracked
-- ==== Proof.Value.Stages.lean ====
/- The reference's operations in stages, each a function of the arrays it reads, and the printed result as their composition. -/
module

public import proofs.«01_k».proof.Proof.Gen.ReferenceIdeal.Run

@[expose] public section

set_option maxRecDepth 16384

noncomputable section

namespace Cert.ReferenceIdeal.Stages

open Idealize.ShloMosaic Idealize.ShloMosaic.TcCoe
open Cert.ReferenceIdeal Cert.ReferenceIdeal.Gen Cert.ReferenceIdeal.Value

variable {F : FTy → Type} [FloatOps F]

/-- A layer without its activation: `x @ W + b`. -/
def affine (x : FVec F S50000x512 .f32) (W : FVec F S512x512 .f32) (b : FVec F S512 .f32) : FVec F S50000x512 .f32 :=
  addf (Host.dotGeneral dot_S50000x512_S512x512_S50000x512_1_0_0_1_n_n none x W)
    (broadcastInDim S50000x512 ![0, 1] bcast_S1x512_S50000x512_0_1 (broadcastInDim S1x512 ![1] bcast_S512_S1x512_1 b))

/-- A layer with its activation. -/
def layer (x : FVec F S50000x512 .f32) (W : FVec F S512x512 .f32) (b : FVec F S512 .f32) : FVec F S50000x512 .f32 :=
  maximumf (affine x W b) (broadcastInDim S50000x512 ![] bcast_S_S50000x512 (constant S_ .f32 0x00000000#32))

/-- The gate scores. -/
def score (x : FVec F S50000x512 .f32) (W : FVec F S512x512 .f32) (b : FVec F S512 .f32) (w : FVec F S512x1 .f32) (b2 : FVec F S1 .f32) :
    FVec F S50000x1 .f32 :=
  addf (Host.dotGeneral dot_S50000x512_S512x1_S50000x1_1_0_0_1_n_n none (layer x W b) w)
    (broadcastInDim S50000x1 ![0, 1] bcast_S1x1_S50000x1_0_1 (broadcastInDim S1x1 ![1] bcast_S1_S1x1_1 b2))

/-- The graph numbers as a column. -/
def column (a : IVec S50000 32) : IVec S50000x1 32 := broadcastInDim S50000x1 ![0] bcast_S50000_S50000x1_0 a

/-- The graph numbers as a column of row numbers, a negative one counted from the end. -/
def rowNumbers (a : IVec S50000 32) : IVec S50000x1 32 :=
  broadcastInDim S50000x1 ![0] bcast_S50000_S50000x1_0
    (select (cmpi .slt a (broadcastInDim S50000 ![] bcast_S_S50000 (constantI S_ 32 0#32)))
      (addi a (broadcastInDim S50000 ![] bcast_S_S50000 (constantI S_ 32 256#32))) a)

/-- The largest score of each graph, minus infinity for a graph without nodes. -/
def graphMax (g : FVec F S50000x1 .f32) (a : IVec S50000 32) : FVec F S256x1 .f32 :=
  broadcastInDim S256x1 ![0] bcast_S256_S256x1_0 (Host.reduce FloatOps.maximumf
    (select
      (cmpi .eq (broadcastInDim S50000x256 ![0, 1] bcast_S50000x1_S50000x256_0_1 (column a))
        (broadcastInDim S50000x256 ![0, 1] bcast_S1x256_S50000x256_0_1 (broadcastInDim S1x256 ![1] bcast_S256_S1x256_1 (iotaInDim S256 32 0))))
      (broadcastInDim S50000x256 ![0, 1] bcast_S50000x1_S50000x256_0_1 g)
      (broadcastInDim S50000x256 ![] bcast_S_S50000x256 (id (constant S_ .f32 0xFF800000#32))))
    (constant S_ .f32 0xFF800000#32) reducesTo_S50000x256_S256_d0 h_S_)

/-- A number where its magnitude is below plus infinity, zero elsewhere. -/
def finiteOrZero (v : FVec F S256x1 .f32) : FVec F S256x1 .f32 :=
  select (cmpf .olt (Host.absf v) (broadcastInDim S256x1 ![] bcast_S_S256x1 (constant S_ .f32 0x7F800000#32))) v
    (broadcastInDim S256x1 ![] bcast_S_S256x1 (id (constant S_ .f32 0x00000000#32)))

/-- The row of each node's graph. -/
def ofGraph (v : FVec F S256x1 .f32) (a : IVec S50000 32) : FVec F S50000x1 .f32 :=
  Host.gather gather_S256x1_S50000x1_S50000x1_1_0_n_n_0_1_11 v (rowNumbers a)

/-- The exponentials of the shifted scores. -/
def expos (g : FVec F S50000x1 .f32) (u : FVec F S256x1 .f32) (a : IVec S50000 32) : FVec F S50000x1 .f32 :=
  Host.exp (subf g (ofGraph u a))

/-- The sum of a column over each graph. -/
def totals (e : FVec F S50000x1 .f32) (a : IVec S50000 32) : FVec F S256x1 .f32 :=
  Host.scatterAdd scatter_S256x1_S50000x1_S50000x1_1_0_0_1 (broadcastInDim S256x1 ![] bcast_S_S256x1 (constant S_ .f32 0x00000000#32)) (column a) e

/-- The small number on each graph's scale. -/
def smalls (g : FVec F S50000x1 .f32) (u : FVec F S256x1 .f32) : FVec F S256x1 .f32 :=
  mulf (broadcastInDim S256x1 ![] bcast_S_S256x1 (constant S_ .f32 0x24E69595#32))
    (Host.exp (subf (broadcastInDim S256x1 ![] bcast_S_S256x1
      (Host.reduce FloatOps.maximumf g (constant S_ .f32 0xFF800000#32) reducesTo_S50000x1_S_d0_1 h_S_)) u))

/-- Each node's share of its graph. -/
def shares (e : FVec F S50000x1 .f32) (t s : FVec F S256x1 .f32) (a : IVec S50000 32) : FVec F S50000x1 .f32 :=
  Host.divf e (addf (ofGraph t a) (ofGraph s a))

/-- The sum over each graph of the rows times their shares. -/
def weighted (p : FVec F S50000x1 .f32) (h : FVec F S50000x512 .f32) (a : IVec S50000 32) : FVec F S256x512 .f32 :=
  Host.scatterAdd scatter_S256x512_S50000x1_S50000x512_1_0_0_1 (broadcastInDim S256x512 ![] bcast_S_S256x512 (constant S_ .f32 0x00000000#32)) (column a)
    (mulf (broadcastInDim S50000x512 ![0, 1] bcast_S50000x1_S50000x512_0_1 p) h)

/-- The result from the scores, the shifts, the output rows and the graph numbers. -/
def attend (g : FVec F S50000x1 .f32) (u : FVec F S256x1 .f32) (h : FVec F S50000x512 .f32) (a : IVec S50000 32) : FVec F S256x512 .f32 :=
  weighted (shares (expos g u a) (totals (expos g u a) a) (smalls g u) a) h a

/-- The whole reference. -/
def whole (a0 : FVec F S50000x512 .f32) (a1 : IVec S50000 32) (a2 : FVec F S512x512 .f32) (a3 : FVec F S512 .f32) (a4 : FVec F S512x1 .f32)
    (a5 : FVec F S1 .f32) (a6 : FVec F S512x512 .f32) (a7 : FVec F S512 .f32) (a8 : FVec F S512x512 .f32) (a9 : FVec F S512 .f32) :
    FVec F S256x512 .f32 :=
  attend (score a0 a2 a3 a4 a5) (finiteOrZero (graphMax (score a0 a2 a3 a4 a5) a1)) (affine (layer a0 a6 a7) a8 a9) a1

/-- The printed result is the composition of the stages. -/
theorem result_eq (m : (ℓ : Loc nD τ sig) → Buf (Elt F) ℓ) (c : Dev nD) :
    res_out0 m c = whole (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold res_out0 res_main_v69
  rfl

end Cert.ReferenceIdeal.Stages
-- ==== Proof.Value.Segment.lean ====
/- A sum of rows by graph number and a read of a graph's row, entry by entry. -/
module

public import proofs.«01_k».proof.Proof.Gen.ReferenceIdeal
public import Idealize.ShloMosaic.Lib.Routing.OpsPair
public import Idealize.ShloMosaic.Lib.Routing.Ops
public import Idealize.ShloMosaic.Lib.Pointwise

@[expose] public section

set_option maxRecDepth 16384

noncomputable section

namespace Cert.ReferenceIdeal.Stages

open Idealize.ShloMosaic
open Cert.ReferenceIdeal Cert.ReferenceIdeal.Gen

/-- Rows added into a matrix, row `i` into the row that word `i` names: an entry of the result is the matrix's plus those of the rows whose word names its row.
    The four hypotheses say where the record `d` sends an update. -/
theorem scatterAdd_rows {N G C : ℕ} (d : ScatterDims ⟨2, ![G, C]⟩ ⟨2, ![N, 1]⟩ ⟨2, ![N, C]⟩) (idx : IVec ⟨2, ![N, 1]⟩ 32)
    (hw0 : ∀ (i : Fin N) (k : Fin C), d.window (ix2 i k) 0 = 0) (hw1 : ∀ (i : Fin N) (k : Fin C), d.window (ix2 i k) 1 = k.val)
    (hs0 : ∀ (i : Fin N) (k : Fin C), d.start (ix2 i k) idx 0 = (idx (ix2 i 0)).toInt) (hs1 : ∀ (i : Fin N) (k : Fin C), d.start (ix2 i k) idx 1 = 0)
    (x : FVec Ideal ⟨2, ![G, C]⟩ .f32) (upd : FVec Ideal ⟨2, ![N, C]⟩ .f32) (g : Fin G) (c : Fin C) :
    Host.scatterAdd d x idx upd (ix2 g c) = (x (ix2 g c) + ∑ i : Fin N, if (idx (ix2 i 0)).toInt = (g.val : ℤ) then upd (ix2 i c) else 0 : EReal) := by
  show (x (ix2 g c) + ∑ j ∈ Finset.univ.filter (fun j => d.resultIdx? j idx = some (ix2 g c)), upd j : EReal) = _
  congr 1
  rw [Finset.sum_filter, sum_idx2]
  refine Finset.sum_congr rfl fun i _ => ?_
  have hl : ∀ k : Fin C, d.resultIdx? (ix2 i k) idx = some (ix2 g c) ↔ (idx (ix2 i 0)).toInt = (g.val : ℤ) ∧ k = c := fun k => by
    refine (Routing.resultIdx?_ix2 d (ix2 i k) idx g c).trans ?_
    rw [hw0, hw1, hs0, hs1]
    constructor
    · rintro ⟨h1, h2⟩
      exact ⟨by omega, Fin.ext (by omega)⟩
    · rintro ⟨h1, rfl⟩
      exact ⟨by omega, by omega⟩
  simp only [hl]
  by_cases h : (idx (ix2 i 0)).toInt = (g.val : ℤ)
  · simp [h]
  · simp [h]

/-- A word, read signed, is a graph's number exactly where it is that number's word. -/
theorem toInt_seg (w : BitVec 32) (b : Fin 256) : w.toInt = (b.val : ℤ) ↔ w = BitVec.ofNat 32 b.val := by
  rw [← StableHlo.Predicate.toInt_ofNat_small b.val (by have := b.isLt; omega)]
  exact BitVec.toInt_inj

variable {idx : IVec S50000x1 32} {seg : Fin 50000 → BitVec 32}

/-- The sum of a column over graph `g`. -/
theorem scatter_column (hidx : ∀ i : Fin 50000, idx (ix2 i 0) = seg i) (x : FVec Ideal S256x1 .f32) (upd : FVec Ideal S50000x1 .f32)
    (g : Fin 256) :
    Host.scatterAdd scatter_S256x1_S50000x1_S50000x1_1_0_0_1 x idx upd (ix2 g 0)
      = (x (ix2 g 0) + ∑ i : Fin 50000, if seg i = BitVec.ofNat 32 g.val then upd (ix2 i 0) else 0 : EReal) := by
  refine (scatterAdd_rows scatter_S256x1_S50000x1_S50000x1_1_0_0_1 idx (fun _ _ => rfl) (fun _ _ => rfl) (fun i k => ?_) (fun _ _ => rfl) x upd g 0).trans ?_
  · refine congrArg (fun p => (idx p).toInt) (funext fun a => ?_)
    match a with
    | ⟨0, _⟩ => rfl
    | ⟨1, _⟩ => rfl
  · simp only [hidx, toInt_seg]

/-- The sum of rows of 512 over graph `g`. -/
theorem scatter_rows (hidx : ∀ i : Fin 50000, idx (ix2 i 0) = seg i) (x : FVec Ideal S256x512 .f32)
    (upd : FVec Ideal S50000x512 .f32) (g : Fin 256) (o : Fin 512) :
    Host.scatterAdd scatter_S256x512_S50000x1_S50000x512_1_0_0_1 x idx upd (ix2 g o)
      = (x (ix2 g o) + ∑ i : Fin 50000, if seg i = BitVec.ofNat 32 g.val then upd (ix2 i o) else 0 : EReal) := by
  refine (scatterAdd_rows scatter_S256x512_S50000x1_S50000x512_1_0_0_1 idx (fun _ _ => rfl) (fun _ _ => rfl) (fun i k => ?_) (fun _ _ => rfl) x upd g o).trans ?_
  · refine congrArg (fun p => (idx p).toInt) (funext fun a => ?_)
    match a with
    | ⟨0, _⟩ => rfl
    | ⟨1, _⟩ => rfl
  · simp only [hidx, toInt_seg]

/-- The row of a node's graph. -/
theorem gather_graph {i : Fin 50000} {b : Fin 256} (hidx : idx (ix2 i 0) = BitVec.ofNat 32 b.val) (v : FVec Ideal S256x1 .f32) :
    Host.gather gather_S256x1_S50000x1_S50000x1_1_0_n_n_0_1_11 v idx (ix2 i 0) = v (ix2 b 0) :=
  Routing.gather_row gather_S256x1_S50000x1_S50000x1_1_0_n_n_0_1_11 rfl rfl rfl rfl rfl v idx i 0 b hidx (by decide)

end Cert.ReferenceIdeal.Stages
-- ==== Proof.Value.StageReads.lean ====
/- What each stage of the reference computes, one entry at a time, over the extended reals. -/
module

public import proofs.«01_k».proof.Proof.Value.Stages
public import proofs.«01_k».proof.Proof.Value.Segment
public import proofs.«01_k».proof.Proof.Value.Inputs

@[expose] public section

set_option maxRecDepth 16384

noncomputable section

namespace Cert.ReferenceIdeal.Stages

open Idealize.ShloMosaic
open Cert.ReferenceIdeal Cert.ReferenceIdeal.Gen Cert.Pool

/-- A layer without its activation. -/
theorem affine_apply (x : FVec Ideal S50000x512 .f32) (W : FVec Ideal S512x512 .f32) (b : FVec Ideal S512 .f32) (i : Fin 50000) (k : Fin 512) :
    affine x W b (ix2 i k) = ∑ j : Fin 512, x (ix2 i j) * W (ix2 j k) + b (ix1 k) := by
  pointwise [affine]

/-- A layer with its activation. -/
theorem layer_apply (x : FVec Ideal S50000x512 .f32) (W : FVec Ideal S512x512 .f32) (b : FVec Ideal S512 .f32) (i : Fin 50000) (k : Fin 512) :
    layer x W b (ix2 i k) = max (∑ j : Fin 512, x (ix2 i j) * W (ix2 j k) + b (ix1 k)) 0 := by
  pointwise [layer, affine]

/-- A gate score. -/
theorem score_apply (x : FVec Ideal S50000x512 .f32) (W : FVec Ideal S512x512 .f32) (b : FVec Ideal S512 .f32) (w : FVec Ideal S512x1 .f32)
    (b2 : FVec Ideal S1 .f32) (i : Fin 50000) :
    score x W b w b2 (ix2 i 0) = ∑ k : Fin 512, layer x W b (ix2 i k) * w (ix2 k 0) + b2 (ix1 0) := by
  pointwise [score]

/-- A number where it is finite, zero elsewhere. -/
theorem finiteOrZero_apply (v : FVec Ideal S256x1 .f32) (b : Fin 256) :
    finiteOrZero v (ix2 b 0) = if max (v (ix2 b 0) : EReal) (-(v (ix2 b 0) : EReal)) < ⊤ then (v (ix2 b 0) : EReal) else 0 := by
  pointwise [finiteOrZero]
  have e : (id (constant (F := Ideal) S_ .f32 0#32) ix0 : EReal) = 0 := Ideal.ofBits_zero_f32
  rw [word_top, e]
  rfl

/-- The column of graph numbers. -/
theorem column_apply (a : IVec S50000 32) (i : Fin 50000) : column a (ix2 i 0) = a (ix1 i) := by
  pointwise [column]

/-- A graph number below 256 is a row number as it is. -/
theorem rowNumbers_apply (a : IVec S50000 32) (i : Fin 50000) (h : (a (ix1 i)).toNat < 256) : rowNumbers a (ix2 i 0) = a (ix1 i) := by
  pointwise [rowNumbers]
  exact Routing.wrap_of_lt (a (ix1 i)) _ (by omega)

/-- The largest entry of a column, read over both of its axes. -/
theorem fold_column {n : ℕ} (f : Fin n → Fin 1 → EReal) :
    Finset.fold max (⊥ : EReal) (fun k : Fin n × Fin 1 => f k.1 k.2) Finset.univ = Finset.univ.sup fun i => f i 0 := by
  refine le_antisymm (Finset.sup_le (f := fun k : Fin n × Fin 1 => f k.1 k.2) fun k _ => ?_) (Finset.sup_le fun i _ => ?_)
  · obtain ⟨i, z⟩ := k
    obtain rfl : z = 0 := Subsingleton.elim _ _
    exact Finset.le_sup (f := fun i : Fin n => f i 0) (Finset.mem_univ i)
  · exact Finset.le_sup (f := fun k : Fin n × Fin 1 => f k.1 k.2) (Finset.mem_univ (i, 0))

/-- The small number on graph `b`'s scale. -/
theorem smalls_apply (g : FVec Ideal S50000x1 .f32) (u : FVec Ideal S256x1 .f32) (b : Fin 256) :
    smalls g u (ix2 b 0) = (eps : EReal) * Ideal.exp ((Finset.univ.sup fun i : Fin 50000 => (g (ix2 i 0) : EReal)) - u (ix2 b 0)) := by
  pointwise [smalls]
  rw [word_eps, word_bot]
  exact congrArg (fun v : EReal => (eps : EReal) * Ideal.exp (v - u (ix2 b 0))) (fold_column fun i z => g (ix2 i z))

/-- A node's share. -/
theorem shares_apply (e : FVec Ideal S50000x1 .f32) (t s : FVec Ideal S256x1 .f32) (a : IVec S50000 32) (i : Fin 50000) :
    shares e t s a (ix2 i 0) = Ideal.div (e (ix2 i 0)) (ofGraph t a (ix2 i 0) + ofGraph s a (ix2 i 0)) := by
  pointwise [shares]

/-- The exponential of a shifted score. -/
theorem expos_apply (g : FVec Ideal S50000x1 .f32) (u : FVec Ideal S256x1 .f32) (a : IVec S50000 32) (i : Fin 50000) :
    expos g u a (ix2 i 0) = Ideal.exp (g (ix2 i 0) - ofGraph u a (ix2 i 0)) := by
  pointwise [expos]

/-- A row's entry times its share. -/
theorem weighted_row (p : FVec Ideal S50000x1 .f32) (h : FVec Ideal S50000x512 .f32) (i : Fin 50000) (o : Fin 512) :
    mulf (broadcastInDim S50000x512 ![0, 1] bcast_S50000x1_S50000x512_0_1 p) h (ix2 i o) = (p (ix2 i 0) * h (ix2 i o) : EReal) := by
  pointwise

end Cert.ReferenceIdeal.Stages
-- ==== Proof.Value.ReferenceValue.lean ====
/- The reference's stages, entry by entry, where the arguments hold a problem's inputs. -/
module

public import proofs.«01_k».proof.Proof.Value.StageReads

@[expose] public section

set_option maxRecDepth 16384

noncomputable section

namespace Cert.ReferenceIdeal.Stages

open Idealize.ShloMosaic
open Cert.ReferenceIdeal Cert.ReferenceIdeal.Gen Cert.Pool

/-- A sum over the nodes. -/
theorem sum_nodes (f : ℕ → EReal) : ∑ i ∈ Finset.range nodes, f i = ∑ i : Fin 50000, f i.val := by
  rw [nodes_eq, Finset.sum_range]

/-- A sum added to an array of zeros. -/
theorem zero_sum (v : EReal) : (Ideal.ofBits .f32 0x00000000#32 : EReal) + v = v := by
  rw [Ideal.ofBits_zero_f32, zero_add]

/-- A real number or zero, among the extended reals. -/
theorem coe_ite (p : Prop) [Decidable p] (x : ℝ) : ((if p then x else 0 : ℝ) : EReal) = if p then (x : EReal) else 0 := by
  split
  · rfl
  · exact EReal.coe_zero

variable {d : Data}

section

variable {g : FVec Ideal S50000x1 .f32} {u : FVec Ideal S256x1 .f32} {h : FVec Ideal S50000x512 .f32} {a : IVec S50000 32} {M v : ℝ} {b : Fin 256}

/-- The value of a node's graph. -/
theorem ofGraph_entry (ha : ∀ i : Fin 50000, a (ix1 i) = d.seg i) (v : FVec Ideal S256x1 .f32) {i : Fin 50000} (hi : d.In i b) :
    ofGraph v a (ix2 i 0) = v (ix2 b 0) := by
  have hw : a (ix1 i) = BitVec.ofNat 32 b.val := (ha i).trans hi
  have hlt := b.isLt
  refine gather_graph ?_ v
  rw [rowNumbers_apply, hw]
  rw [hw, BitVec.toNat_ofNat]
  omega

/-- The exponential of a shifted score. -/
theorem expos_entry (ha : ∀ i : Fin 50000, a (ix1 i) = d.seg i) (hg : ∀ i : Fin 50000, g (ix2 i 0) = ((d.gate i + d.b2g : ℝ) : EReal))
    (hu : u (ix2 b 0) = ((v : ℝ) : EReal)) {i : Fin 50000} (hi : d.In i b) : expos g u a (ix2 i 0) = ((d.expo v i : ℝ) : EReal) := by
  rw [expos_apply, ofGraph_entry ha u hi, hg, hu, ← EReal.coe_sub, Ideal.exp_coe]
  rfl

/-- A graph's sum of exponentials. -/
theorem totals_entry (ha : ∀ i : Fin 50000, a (ix1 i) = d.seg i) {e : FVec Ideal S50000x1 .f32}
    (he : ∀ {i : Fin 50000}, d.In i b → e (ix2 i 0) = ((d.expo v i : ℝ) : EReal)) : totals e a (ix2 b 0) = ((d.total v b : ℝ) : EReal) := by
  refine (scatter_column (seg := fun i => d.seg i) (fun i => (column_apply a i).trans (ha i)) _ e b).trans ?_
  unfold Data.total
  rw [coe_sum, sum_nodes]
  refine (zero_sum _).trans (Finset.sum_congr rfl fun i _ => ?_)
  rw [coe_ite]
  by_cases hi : d.In i b
  · rw [if_pos hi, ← he hi]
    exact if_pos hi
  · rw [if_neg hi]
    exact if_neg hi

/-- The small number on a graph's scale. -/
theorem smalls_entry (hM : IsGreatest (d.gate '' Set.Iio nodes) M) (hg : ∀ i : Fin 50000, g (ix2 i 0) = ((d.gate i + d.b2g : ℝ) : EReal))
    (hu : u (ix2 b 0) = ((v : ℝ) : EReal)) : smalls g u (ix2 b 0) = ((d.small eps M v : ℝ) : EReal) := by
  have hs : (Finset.univ.sup fun i : Fin 50000 => (g (ix2 i 0) : EReal)) = ((M + d.b2g : ℝ) : EReal) := by
    obtain ⟨⟨i, hi, hiM⟩, hmax⟩ := hM
    rw [nodes_eq] at hi hmax
    refine le_antisymm (Finset.sup_le fun j _ => ?_) ?_
    · rw [hg]
      exact EReal.coe_le_coe_iff.2 (add_le_add_left (hmax ⟨j, j.isLt, rfl⟩) _)
    · refine le_trans (le_of_eq ?_) (Finset.le_sup (f := fun i : Fin 50000 => (g (ix2 i 0) : EReal)) (Finset.mem_univ ⟨i, hi⟩))
      rw [hg, ← hiM]
  rw [smalls_apply, hs, hu, ← EReal.coe_sub, Ideal.exp_coe, ← EReal.coe_mul]
  rfl

/-- The result for graph `b` from real scores, a real shift and any rows. A node of no graph adds nothing, whatever is read for it. -/
theorem attend_entry (hM : IsGreatest (d.gate '' Set.Iio nodes) M) (ha : ∀ i : Fin 50000, a (ix1 i) = d.seg i)
    (hg : ∀ i : Fin 50000, g (ix2 i 0) = ((d.gate i + d.b2g : ℝ) : EReal)) (hu : u (ix2 b 0) = ((v : ℝ) : EReal))
    (hh : ∀ (i : Fin 50000) (o : Fin 512), h (ix2 i o) = (d.out i o : EReal)) (o : Fin 512) : attend g u h a (ix2 b o) = d.refOut eps M v b o := by
  have hshare : ∀ i : Fin 50000, d.In i b → shares (expos g u a) (totals (expos g u a) a) (smalls g u) a (ix2 i 0)
      = ((d.expo v i / (d.total v b + d.small eps M v) : ℝ) : EReal) := fun i hi => by
    rw [shares_apply, ofGraph_entry ha _ hi, ofGraph_entry ha _ hi, expos_entry ha hg hu hi, totals_entry ha (expos_entry ha hg hu),
      smalls_entry hM hg hu, ← EReal.coe_add, div_real]
    exact (add_pos_of_nonneg_of_pos (Data.total_nonneg v b) (Data.small_pos eps_pos M v)).ne'
  unfold attend
  refine (scatter_rows (seg := fun i => d.seg i) (fun i => (column_apply a i).trans (ha i)) _ _ b o).trans ?_
  unfold Data.refOut
  rw [sum_nodes]
  refine (zero_sum _).trans (Finset.sum_congr rfl fun i _ => ?_)
  by_cases hi : d.In i b
  · rw [if_pos hi, ← hshare i hi, ← hh, ← weighted_row]
    exact if_pos hi
  · rw [if_neg hi]
    exact if_neg hi

end

variable {a0 : FVec Ideal S50000x512 .f32} {a1 : IVec S50000 32} {a2 : FVec Ideal S512x512 .f32} {a3 : FVec Ideal S512 .f32} {a4 : FVec Ideal S512x1 .f32}
  {a5 : FVec Ideal S1 .f32} {a6 : FVec Ideal S512x512 .f32} {a7 : FVec Ideal S512 .f32} {a8 : FVec Ideal S512x512 .f32} {a9 : FVec Ideal S512 .f32}

/-- A gate score with its bias. -/
theorem score_entry (h : Holds d a0 a1 a2 a3 a4 a5 a6 a7 a8 a9) (i : Fin 50000) :
    score a0 a2 a3 a4 a5 (ix2 i 0) = ((d.gate i + d.b2g : ℝ) : EReal) := by
  rw [score_apply, h.b2g, EReal.coe_add]
  unfold Data.gate
  rw [coe_sum]
  simp only [layer_apply, h.x, h.W1g, h.b1g, h.w2g, hidden_real, EReal.coe_mul]

/-- An output row's entry. -/
theorem out_entry (h : Holds d a0 a1 a2 a3 a4 a5 a6 a7 a8 a9) (i : Fin 50000) (o : Fin 512) :
    affine (layer a0 a6 a7) a8 a9 (ix2 i o) = d.out i o := by
  rw [affine_apply, h.b2n]
  unfold Data.out Data.hid
  simp only [layer_apply, h.x, h.W1n, h.b1n, h.W2n]

/-- Where a number is finite or zero has been put in its place, it is real. -/
theorem shift_real (v : FVec Ideal S256x1 .f32) (b : Fin 256) :
    finiteOrZero v (ix2 b 0) = (((finiteOrZero v (ix2 b 0) : EReal).toReal : ℝ) : EReal) := by
  rw [finiteOrZero_apply]
  split
  · next h => exact real_of_abs_lt h
  · simp

/-- The reference's result: at the largest gate score `M` of all nodes, every entry is `kernelOut`. -/
theorem whole_entry (h : Holds d a0 a1 a2 a3 a4 a5 a6 a7 a8 a9) {M : ℝ} (hM : IsGreatest (d.gate '' Set.Iio nodes) M) (b : Fin 256) (o : Fin 512) :
    whole a0 a1 a2 a3 a4 a5 a6 a7 a8 a9 (ix2 b o) = d.kernelOut eps M b o := by
  unfold whole
  rw [attend_entry hM h.seg (score_entry h) (shift_real _ b) (out_entry h), Data.refOut_eq eps_pos]

end Cert.ReferenceIdeal.Stages
-- ==== Proof.Equation.lean ====
/- The equation: from memories whose arguments agree, the kernel over the extended reals and the reference end with the same result. -/
module

public import proofs.«01_k».proof.Proof.Value.Output
public import proofs.«01_k».proof.Proof.Value.KernelValue
public import proofs.«01_k».proof.Proof.Value.ReferenceValue

@[expose] public section

noncomputable section

namespace Cert.Proof

open Idealize.ShloMosaic Idealize.ShloMosaic.TcCoe Idealize.SL.Sem
open Cert.Pool

/-- The kernel's memories. -/
abbrev KMem := (ℓ : Loc Cert.Kernel.nD Cert.Kernel.τ Cert.Kernel.sig) → Buf (Elt Ideal) ℓ

/-- The reference's memories. -/
abbrev RMem := (ℓ : Loc Cert.ReferenceIdeal.nD Cert.ReferenceIdeal.τ Cert.ReferenceIdeal.sig) → Buf (Elt Ideal) ℓ

section Kernel

open Cert.Kernel

/-- The memory `n` has the arguments of the memory `m` on core `c`. -/
def KeepsK (m n : KMem) (c : Dev nD) : Prop :=
  n ((c.tc : Thread nD τ).loc main_arg0) = m ((c.tc : Thread nD τ).loc main_arg0) ∧ n ((c.tc : Thread nD τ).loc main_arg1) = m ((c.tc : Thread nD τ).loc main_arg1)
  ∧ n ((c.tc : Thread nD τ).loc main_arg2) = m ((c.tc : Thread nD τ).loc main_arg2) ∧ n ((c.tc : Thread nD τ).loc main_arg3) = m ((c.tc : Thread nD τ).loc main_arg3)
  ∧ n ((c.tc : Thread nD τ).loc main_arg4) = m ((c.tc : Thread nD τ).loc main_arg4) ∧ n ((c.tc : Thread nD τ).loc main_arg5) = m ((c.tc : Thread nD τ).loc main_arg5)
  ∧ n ((c.tc : Thread nD τ).loc main_arg6) = m ((c.tc : Thread nD τ).loc main_arg6) ∧ n ((c.tc : Thread nD τ).loc main_arg7) = m ((c.tc : Thread nD τ).loc main_arg7)
  ∧ n ((c.tc : Thread nD τ).loc main_arg8) = m ((c.tc : Thread nD τ).loc main_arg8) ∧ n ((c.tc : Thread nD τ).loc main_arg9) = m ((c.tc : Thread nD τ).loc main_arg9)

/-- Every run of the kernel ends with its result and its arguments unchanged. -/
theorem run_kernel (m : KMem) (g : Dev nD → PrngReg) : θ_run (defs (F := Ideal)) (onTc (τ := τ) (main (F := Ideal))) ⟨m, fun _ => 0, g⟩ fun r =>
    ∀ c : Dev nD, r.2.mem ((c.tc : Thread nD τ).loc main_v5) = Tracked.result m c ∧ KeepsK m r.2.mem c :=
  (θ_run_and (Tracked.run_result m g) (Tracked.run_frame (F := Ideal) m g)).mono fun r h c => ⟨h.1 c, h.2.1 c⟩

end Kernel

section Reference

open Cert.ReferenceIdeal

/-- The reference's memory `n` has the arguments of its memory `m` on core `c`. -/
def KeepsR (m n : RMem) (c : Dev nD) : Prop :=
  n ((c.tc : Thread nD τ).loc main_arg0) = m ((c.tc : Thread nD τ).loc main_arg0) ∧ n ((c.tc : Thread nD τ).loc main_arg1) = m ((c.tc : Thread nD τ).loc main_arg1)
  ∧ n ((c.tc : Thread nD τ).loc main_arg2) = m ((c.tc : Thread nD τ).loc main_arg2) ∧ n ((c.tc : Thread nD τ).loc main_arg3) = m ((c.tc : Thread nD τ).loc main_arg3)
  ∧ n ((c.tc : Thread nD τ).loc main_arg4) = m ((c.tc : Thread nD τ).loc main_arg4) ∧ n ((c.tc : Thread nD τ).loc main_arg5) = m ((c.tc : Thread nD τ).loc main_arg5)
  ∧ n ((c.tc : Thread nD τ).loc main_arg6) = m ((c.tc : Thread nD τ).loc main_arg6) ∧ n ((c.tc : Thread nD τ).loc main_arg7) = m ((c.tc : Thread nD τ).loc main_arg7)
  ∧ n ((c.tc : Thread nD τ).loc main_arg8) = m ((c.tc : Thread nD τ).loc main_arg8) ∧ n ((c.tc : Thread nD τ).loc main_arg9) = m ((c.tc : Thread nD τ).loc main_arg9)

end Reference

/-- The two programs' arguments agree on core `c`. -/
def SameArgs (m : KMem) (m' : RMem) (c : Dev Cert.Kernel.nD) : Prop :=
  m' ((c.tc : Thread Cert.ReferenceIdeal.nD Cert.ReferenceIdeal.τ).loc Cert.ReferenceIdeal.main_arg0) = m ((c.tc : Thread Cert.Kernel.nD Cert.Kernel.τ).loc Cert.Kernel.main_arg0)
  ∧ m' ((c.tc : Thread Cert.ReferenceIdeal.nD Cert.ReferenceIdeal.τ).loc Cert.ReferenceIdeal.main_arg1) = m ((c.tc : Thread Cert.Kernel.nD Cert.Kernel.τ).loc Cert.Kernel.main_arg1)
  ∧ m' ((c.tc : Thread Cert.ReferenceIdeal.nD Cert.ReferenceIdeal.τ).loc Cert.ReferenceIdeal.main_arg2) = m ((c.tc : Thread Cert.Kernel.nD Cert.Kernel.τ).loc Cert.Kernel.main_arg2)
  ∧ m' ((c.tc : Thread Cert.ReferenceIdeal.nD Cert.ReferenceIdeal.τ).loc Cert.ReferenceIdeal.main_arg3) = m ((c.tc : Thread Cert.Kernel.nD Cert.Kernel.τ).loc Cert.Kernel.main_arg3)
  ∧ m' ((c.tc : Thread Cert.ReferenceIdeal.nD Cert.ReferenceIdeal.τ).loc Cert.ReferenceIdeal.main_arg4) = m ((c.tc : Thread Cert.Kernel.nD Cert.Kernel.τ).loc Cert.Kernel.main_arg4)
  ∧ m' ((c.tc : Thread Cert.ReferenceIdeal.nD Cert.ReferenceIdeal.τ).loc Cert.ReferenceIdeal.main_arg5) = m ((c.tc : Thread Cert.Kernel.nD Cert.Kernel.τ).loc Cert.Kernel.main_arg5)
  ∧ m' ((c.tc : Thread Cert.ReferenceIdeal.nD Cert.ReferenceIdeal.τ).loc Cert.ReferenceIdeal.main_arg6) = m ((c.tc : Thread Cert.Kernel.nD Cert.Kernel.τ).loc Cert.Kernel.main_arg6)
  ∧ m' ((c.tc : Thread Cert.ReferenceIdeal.nD Cert.ReferenceIdeal.τ).loc Cert.ReferenceIdeal.main_arg7) = m ((c.tc : Thread Cert.Kernel.nD Cert.Kernel.τ).loc Cert.Kernel.main_arg7)
  ∧ m' ((c.tc : Thread Cert.ReferenceIdeal.nD Cert.ReferenceIdeal.τ).loc Cert.ReferenceIdeal.main_arg8) = m ((c.tc : Thread Cert.Kernel.nD Cert.Kernel.τ).loc Cert.Kernel.main_arg8)
  ∧ m' ((c.tc : Thread Cert.ReferenceIdeal.nD Cert.ReferenceIdeal.τ).loc Cert.ReferenceIdeal.main_arg9) = m ((c.tc : Thread Cert.Kernel.nD Cert.Kernel.τ).loc Cert.Kernel.main_arg9)

/-- Where the arguments agree and hold a problem's inputs, the two results are the same array. -/
theorem results_eq {m : KMem} {m' : RMem} {c : Dev Cert.Kernel.nD} {d : Data} (h : Cert.Kernel.Tracked.ArgsHold m c d) (hs : SameArgs m m' c) :
    (Cert.ReferenceIdeal.Value.res_out0 m' c : FVec Ideal ⟨2, ![256, 512]⟩ .f32) = Cert.Kernel.Tracked.result m c := by
  obtain ⟨M, hM, hk⟩ := Cert.Kernel.Tracked.result_entry h
  obtain ⟨e0, e1, e2, e3, e4, e5, e6, e7, e8, e9⟩ := hs
  rw [Cert.ReferenceIdeal.Stages.result_eq, e0, e1, e2, e3, e4, e5, e6, e7, e8, e9]
  funext j
  rw [← ix2_eta j]
  exact (Cert.ReferenceIdeal.Stages.whole_entry h hM (j 0) (j 1)).trans (hk (j 0) (j 1)).symm

/-- The algebraic claim, in the kernel's own names. -/
theorem algebraic [Cert.Pre_finite_gates.Facts] (m : KMem) (g : Dev Cert.Kernel.nD → PrngReg) (m' : RMem) (g' : Dev Cert.ReferenceIdeal.nD → PrngReg)
    (hpre : ∀ c : Dev Cert.Kernel.nD, Cert.Pre_finite_gates.fn (F := Ideal)
      (m ((c.tc : Thread Cert.Kernel.nD Cert.Kernel.τ).loc Cert.Kernel.main_arg0)) (m ((c.tc : Thread Cert.Kernel.nD Cert.Kernel.τ).loc Cert.Kernel.main_arg1))
      (m ((c.tc : Thread Cert.Kernel.nD Cert.Kernel.τ).loc Cert.Kernel.main_arg2)) (m ((c.tc : Thread Cert.Kernel.nD Cert.Kernel.τ).loc Cert.Kernel.main_arg3))
      (m ((c.tc : Thread Cert.Kernel.nD Cert.Kernel.τ).loc Cert.Kernel.main_arg4)) (m ((c.tc : Thread Cert.Kernel.nD Cert.Kernel.τ).loc Cert.Kernel.main_arg5))
      (m ((c.tc : Thread Cert.Kernel.nD Cert.Kernel.τ).loc Cert.Kernel.main_arg6)) (m ((c.tc : Thread Cert.Kernel.nD Cert.Kernel.τ).loc Cert.Kernel.main_arg7))
      (m ((c.tc : Thread Cert.Kernel.nD Cert.Kernel.τ).loc Cert.Kernel.main_arg8)) (m ((c.tc : Thread Cert.Kernel.nD Cert.Kernel.τ).loc Cert.Kernel.main_arg9))
      = fun _ => 1#1)
    (hs : ∀ c, SameArgs m m' c) :
    ∃ v : (c : Dev Cert.Kernel.nD) → Buf (Elt Ideal) ((c.tc : Thread Cert.Kernel.nD Cert.Kernel.τ).loc Cert.Kernel.main_v5),
      θ_run (Cert.Kernel.defs (F := Ideal)) (onTc (τ := Cert.Kernel.τ) (Cert.Kernel.main (F := Ideal))) ⟨m, fun _ => 0, g⟩ (fun r =>
        ∀ c : Dev Cert.Kernel.nD, r.2.mem ((c.tc : Thread Cert.Kernel.nD Cert.Kernel.τ).loc Cert.Kernel.main_v5) = v c ∧ KeepsK m r.2.mem c)
      ∧ θ_run (Cert.ReferenceIdeal.defs (F := Ideal)) (onTc (τ := Cert.ReferenceIdeal.τ) (Cert.ReferenceIdeal.main (F := Ideal))) ⟨m', fun _ => 0, g'⟩ (fun r =>
        ∀ c : Dev Cert.ReferenceIdeal.nD, r.2.mem ((c.tc : Thread Cert.ReferenceIdeal.nD Cert.ReferenceIdeal.τ).loc Cert.ReferenceIdeal.main_v69) = v c
          ∧ KeepsR m' r.2.mem c) := by
  refine ⟨fun c => Cert.Kernel.Tracked.result m c, run_kernel m g, ?_⟩
  refine (θ_run Cert.ReferenceIdeal.defs _ _).mono (fun r h c => ⟨(h c).1.trans ?_, (h c).2⟩) (Cert.ReferenceIdeal.Value.run (F := Ideal) m' g')
  obtain ⟨d, hd⟩ := exists_holds _ _ _ _ _ _ _ _ _ _ (hpre c)
  exact results_eq (d := d) hd (hs c)

end Cert.Proof
-- ==== Proof.lean ====
module

public import proofs.«01_k».proof.Defs
public import proofs.«01_k».proof.Proof.Gen.KernelIdeal
public import proofs.«01_k».proof.Proof.Transfer
public import proofs.«01_k».proof.Proof.Equation

@[expose] public section

noncomputable section

namespace Cert.Proof

open Idealize.ShloMosaic Idealize.SL.Sem

/-- The reference's run: it terminates, its arguments end unchanged, and it has no semaphore. -/
theorem frame_r (m : RMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, KeepsR m r.2.mem c) ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The frame of the kernel over the extended reals, which is that of the kernel read over another kind of numbers. -/
theorem frame_i : Cert.quiescent_KernelIdeal (hKernelIdeal := Cert.KernelIdeal.Gen.facts) := fun m ρ _ => by
  rw [main_eq, defs_eq]
  with_unfolding_all exact Cert.Kernel.Tracked.run_frame (F := Ideal) m ρ

/-- The kernel over the extended reals and the reference end with the same result on every input that the precondition admits. -/
theorem same_result : Cert.algebraic_KernelIdeal_ReferenceIdeal_pre_finite_gates (hKernelIdeal := Cert.KernelIdeal.Gen.facts)
    (hReferenceIdeal := Cert.ReferenceIdeal.Gen.facts) (hPre_finite_gates := Cert.Pool.pre_facts) := fun m g m' g' hpre hargs => by
  rw [main_eq, defs_eq]
  with_unfolding_all exact @algebraic Cert.Pool.pre_facts m g m' g' hpre hargs

/-- The frames of the three programs, the empty ledger, and the equation of the two results. -/
theorem claim : Cert.Claim :=
  ⟨Cert.Kernel.Gen.facts, Cert.KernelIdeal.Gen.facts, Cert.ReferenceIdeal.Gen.facts, Cert.Pool.pre_facts,
    fun m ρ _ => Cert.Kernel.Tracked.run_frame m ρ, frame_i, fun m ρ _ => frame_i m ρ trivial,
    fun m ρ _ => frame_r m ρ, fun m ρ _ => frame_r m ρ, trivial, same_result⟩

end Cert.Proof

end
